-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "mean" .f32 0x35A72EF8#32 ((802817⁻¹ : ℝ) : EReal)
  ∧ IdealRules.named_const.Statement Cert.KernelIdeal.κ "pad" .f32 0xF149F2CA#32 ⊥

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts) (hPre_pre : Cert.Pre_pre.Facts),
    quiescent_Kernel (hKernel := hKernel) (hPre_in_range := hPre_in_range)
    ∧ quiescent_KernelIdeal (hKernelIdeal := hKernelIdeal) (hPre_in_range := hPre_in_range)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_in_range.lean ====
abbrev S819200 : Shape := ⟨1, ![819200]⟩
abbrev S16384 : Shape := ⟨1, ![16384]⟩
abbrev S1000000x64 : Shape := ⟨2, ![1000000, 64]⟩
abbrev S256x64 : Shape := ⟨2, ![256, 64]⟩
abbrev S256 : Shape := ⟨1, ![256]⟩
abbrev S2x256 : Shape := ⟨2, ![2, 256]⟩
abbrev S2 : Shape := ⟨1, ![2]⟩
abbrev S_ : Shape := ⟨0, ![]⟩

class Facts : Prop where
  bcast_S_S819200 : S_.BroadcastsInDim S819200 (![] : Fin 0 → Fin S819200.rank)
  reducesTo_S819200_S_d0 : S819200.ReducesTo [0] S_
  h_S_ : 0 < S_.numel

variable [Facts]

def fn {F : FTy → Type} [FloatOps F] (main_arg0 : IVec S819200 32) (main_arg1 : IVec S16384 32) (main_arg2 : FVec F S1000000x64 .f32) (main_arg3 : FVec F S256x64 .f32) (main_arg4 : FVec F S256 .f32) (main_arg5 : FVec F S2x256 .f32) (main_arg6 : FVec F S2 .f32) : IVec S_ 1 :=
  let main_c : IVec S_ 32 := constantI S_ 32 0#32
  let main_v0 : IVec S819200 32 := broadcastInDim S819200 ![] bcast_S_S819200 main_c
  let main_v1 : IVec S819200 1 := cmpi .sge main_arg0 main_v0
  let main_c_0 : IVec S_ 32 := constantI S_ 32 1000000#32
  let main_v2 : IVec S819200 32 := broadcastInDim S819200 ![] bcast_S_S819200 main_c_0
  let main_v3 : IVec S819200 1 := cmpi .slt main_arg0 main_v2
  let main_v4 : IVec S819200 1 := andi main_v1 main_v3
  let main_c_1 : IVec S_ 1 := constantI S_ 1 1#1
  let main_v5 : IVec S_ 1 := (fun x v => Host.reduce IntOp.andi x v reducesTo_S819200_S_d0 h_S_) main_v4 main_c_1
  main_v5
-- ==== Pre_pre.lean ====
abbrev S819200 : Shape := ⟨1, ![819200]⟩
abbrev S16384 : Shape := ⟨1, ![16384]⟩
abbrev S1000000x64 : Shape := ⟨2, ![1000000, 64]⟩
abbrev S256x64 : Shape := ⟨2, ![256, 64]⟩
abbrev S256 : Shape := ⟨1, ![256]⟩
abbrev S2x256 : Shape := ⟨2, ![2, 256]⟩
abbrev S2 : Shape := ⟨1, ![2]⟩
abbrev S_ : Shape := ⟨0, ![]⟩

class Facts : Prop where
  bcast_S_S819200 : S_.BroadcastsInDim S819200 (![] : Fin 0 → Fin S819200.rank)
  reducesTo_S819200_S_d0 : S819200.ReducesTo [0] S_
  h_S_ : 0 < S_.numel
  reducesTo_S16384_S_d0 : S16384.ReducesTo [0] S_
  bcast_S_S1000000x64 : S_.BroadcastsInDim S1000000x64 (![] : Fin 0 → Fin S1000000x64.rank)
  reducesTo_S1000000x64_S_d0_1 : S1000000x64.ReducesTo [0, 1] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_v29 : IVec S_ 1) (main_v33 : IVec S_ 1) : IVec S_ 1 :=
  let main_v34 : IVec S_ 1 := andi main_v29 main_v33
  main_v34

def fn_part1 {F : FTy → Type} [FloatOps F] (main_arg4 : FVec F S256 .f32) (main_arg5 : FVec F S2x256 .f32) (main_arg6 : FVec F S2 .f32) (main_v14 : IVec S_ 1) (main_v15 : FVec F S256x64 .f32) (main_v16 : FVec F S256x64 .f32) : IVec S_ 1 :=
  let main_v17 : IVec S256x64 1 := cmpf .olt main_v15 main_v16
  let main_c_5 : IVec S_ 1 := constantI S_ 1 1#1
  let main_v18 : IVec S_ 1 := (fun x v => Host.reduce IntOp.andi x v reducesTo_S256x64_S_d0_1 h_S_) main_v17 main_c_5
  let main_v19 : IVec S_ 1 := andi main_v14 main_v18
  let main_v20 : FVec F S256 .f32 := Host.absf main_arg4
  let main_cst_6 : FVec F S_ .f32 := constant S_ .f32 0x7F800000#32
  let main_v21 : FVec F S256 .f32 := broadcastInDim S256 ![] bcast_S_S256 main_cst_6
  let main_v22 : IVec S256 1 := cmpf .olt main_v20 main_v21
  let main_c_7 : IVec S_ 1 := constantI S_ 1 1#1
  let main_v23 : IVec S_ 1 := (fun x v => Host.reduce IntOp.andi x v reducesTo_S256_S_d0 h_S_) main_v22 main_c_7
  let main_v24 : IVec S_ 1 := andi main_v19 main_v23
  let main_v25 : FVec F S2x256 .f32 := Host.absf main_arg5
  let main_cst_8 : FVec F S_ .f32 := constant S_ .f32 0x7F800000#32
  let main_v26 : FVec F S2x256 .f32 := broadcastInDim S2x256 ![] bcast_S_S2x256 main_cst_8
  let main_v27 : IVec S2x256 1 := cmpf .olt main_v25 main_v26
  let main_c_9 : IVec S_ 1 := constantI S_ 1 1#1
  let main_v28 : IVec S_ 1 := (fun x v => Host.reduce IntOp.andi x v reducesTo_S2x256_S_d0_1 h_S_) main_v27 main_c_9
  let main_v29 : IVec S_ 1 := andi main_v24 main_v28
  let main_v30 : FVec F S2 .f32 := Host.absf main_arg6
  let main_cst_10 : FVec F S_ .f32 := constant S_ .f32 0x7F800000#32
  let main_v31 : FVec F S2 .f32 := broadcastInDim S2 ![] bcast_S_S2 main_cst_10
  let main_v32 : IVec S2 1 := cmpf .olt main_v30 main_v31
  let main_c_11 : IVec S_ 1 := constantI S_ 1 1#1
  let main_v33 : IVec S_ 1 := (fun x v => Host.reduce IntOp.andi x v reducesTo_S2_S_d0 h_S_) main_v32 main_c_11
  fn_part2 (F := F) main_v29 main_v33

def fn {F : FTy → Type} [FloatOps F] (main_arg0 : IVec S819200 32) (main_arg1 : IVec S16384 32) (main_arg2 : FVec F S1000000x64 .f32) (main_arg3 : FVec F S256x64 .f32) (main_arg4 : FVec F S256 .f32) (main_arg5 : FVec F S2x256 .f32) (main_arg6 : FVec F S2 .f32) : IVec S_ 1 :=
  let main_c : IVec S_ 32 := constantI S_ 32 0#32
  let main_v0 : IVec S819200 32 := broadcastInDim S819200 ![] bcast_S_S819200 main_c
  let main_v1 : IVec S819200 1 := cmpi .sge main_arg0 main_v0
  let main_c_0 : IVec S_ 32 := constantI S_ 32 1000000#32
  let main_v2 : IVec S819200 32 := broadcastInDim S819200 ![] bcast_S_S819200 main_c_0
  let main_v3 : IVec S819200 1 := cmpi .slt main_arg0 main_v2
  let main_v4 : IVec S819200 1 := andi main_v1 main_v3
  let main_c_1 : IVec S_ 1 := constantI S_ 1 1#1
  let main_v5 : IVec S_ 1 := (fun x v => Host.reduce IntOp.andi x v reducesTo_S819200_S_d0 h_S_) main_v4 main_c_1
  let main_v6 : IVec S16384 32 := iotaInDim S16384 32 0
  let main_v7 : IVec S16384 1 := cmpi .eq main_arg1 main_v6
  let main_c_2 : IVec S_ 1 := constantI S_ 1 1#1
  let main_v8 : IVec S_ 1 := (fun x v => Host.reduce IntOp.andi x v reducesTo_S16384_S_d0 h_S_) main_v7 main_c_2
  let main_v9 : IVec S_ 1 := andi main_v5 main_v8
  let main_v10 : FVec F S1000000x64 .f32 := Host.absf main_arg2
  let main_cst : FVec F S_ .f32 := constant S_ .f32 0x7F800000#32
  let main_v11 : FVec F S1000000x64 .f32 := broadcastInDim S1000000x64 ![] bcast_S_S1000000x64 main_cst
  let main_v12 : IVec S1000000x64 1 := cmpf .olt main_v10 main_v11
  let main_c_3 : IVec S_ 1 := constantI S_ 1 1#1
  let main_v13 : IVec S_ 1 := (fun x v => Host.reduce IntOp.andi x v reducesTo_S1000000x64_S_d0_1 h_S_) main_v12 main_c_3
  let main_v14 : IVec S_ 1 := andi main_v9 main_v13
  let main_v15 : FVec F S256x64 .f32 := Host.absf main_arg3
  let main_cst_4 : FVec F S_ .f32 := constant S_ .f32 0x7F800000#32
  let main_v16 : FVec F S256x64 .f32 := broadcastInDim S256x64 ![] bcast_S_S256x64 main_cst_4
  fn_part1 (F := F) main_arg4 main_arg5 main_arg6 main_v14 main_v15 main_v16
-- ==== Kernel.lean ====
abbrev S819200 : Shape := ⟨1, ![819200]⟩
abbrev S16384 : Shape := ⟨1, ![16384]⟩
abbrev S1000000x64 : Shape := ⟨2, ![1000000, 64]⟩
abbrev S256x64 : Shape := ⟨2, ![256, 64]⟩
abbrev S256 : Shape := ⟨1, ![256]⟩
abbrev S2x256 : Shape := ⟨2, ![2, 256]⟩
abbrev S2 : Shape := ⟨1, ![2]⟩
abbrev S500000x128 : Shape := ⟨2, ![500000, 128]⟩
abbrev S16384x128 : Shape := ⟨2, ![16384, 128]⟩
abbrev S4096 : Shape := ⟨1, ![4096]⟩
abbrev S512 : Shape := ⟨1, ![512]⟩
abbrev S512x128 : Shape := ⟨2, ![512, 128]⟩
abbrev S128 : Shape := ⟨1, ![128]⟩
abbrev S_ : Shape := ⟨0, ![]⟩
abbrev S16 : Shape := ⟨1, ![16]⟩
abbrev S1 : Shape := ⟨1, ![1]⟩
abbrev S1x16 : Shape := ⟨2, ![1, 16]⟩
abbrev S32x128 : Shape := ⟨2, ![32, 128]⟩
abbrev S16384x1 : Shape := ⟨2, ![16384, 1]⟩
abbrev S64x256 : Shape := ⟨2, ![64, 256]⟩
abbrev S1x256 : Shape := ⟨2, ![1, 256]⟩
abbrev S256x128 : Shape := ⟨2, ![256, 128]⟩
abbrev S256x2 : Shape := ⟨2, ![256, 2]⟩
abbrev S1x128 : Shape := ⟨2, ![1, 128]⟩
abbrev S1024x128 : Shape := ⟨2, ![1024, 128]⟩
abbrev S1024x64 : Shape := ⟨2, ![1024, 64]⟩
abbrev S32x64 : Shape := ⟨2, ![32, 64]⟩
abbrev S64 : Shape := ⟨1, ![64]⟩
abbrev S1x64 : Shape := ⟨2, ![1, 64]⟩
abbrev S1024x1 : Shape := ⟨2, ![1024, 1]⟩
abbrev S1024x256 : Shape := ⟨2, ![1024, 256]⟩
abbrev S1024 : Shape := ⟨1, ![1024]⟩
abbrev S16384x2 : Shape := ⟨2, ![16384, 2]⟩

abbrev nBuf : Table → Nat
  | .hbm => 36
  | .local .tc .vmem => 11
  | .local .scVector .vmem => 4
  | _ => 0

abbrev bufTy : (tb : Table) → Fin (nBuf tb) → BufTy
  | .hbm, ⟨0, _⟩ => ⟨S819200, .i32⟩
  | .hbm, ⟨1, _⟩ => ⟨S16384, .i32⟩
  | .hbm, ⟨2, _⟩ => ⟨S1000000x64, .f32⟩
  | .hbm, ⟨3, _⟩ => ⟨S256x64, .f32⟩
  | .hbm, ⟨4, _⟩ => ⟨S256, .f32⟩
  | .hbm, ⟨5, _⟩ => ⟨S2x256, .f32⟩
  | .hbm, ⟨6, _⟩ => ⟨S2, .f32⟩
  | .hbm, ⟨7, _⟩ => ⟨S500000x128, .f32⟩
  | .hbm, ⟨8, _⟩ => ⟨S16384x128, .f32⟩
  | .hbm, ⟨9, _⟩ => ⟨S4096, .f32⟩
  | .hbm, ⟨10, _⟩ => ⟨S32x128, .f32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .f32⟩
  | .hbm, ⟨16, _⟩ => ⟨S16384x1, .f32⟩
  | .hbm, ⟨17, _⟩ => ⟨S16384x128, .f32⟩
  | .hbm, ⟨18, _⟩ => ⟨S64x256, .f32⟩
  | .hbm, ⟨19, _⟩ => ⟨S1x256, .f32⟩
  | .hbm, ⟨20, _⟩ => ⟨S_, .f32⟩
  | .hbm, ⟨21, _⟩ => ⟨S256x128, .f32⟩
  | .hbm, ⟨22, _⟩ => ⟨S256x2, .f32⟩
  | .hbm, ⟨23, _⟩ => ⟨S_, .i32⟩
  | .hbm, ⟨24, _⟩ => ⟨S1, .i32⟩
  | .hbm, ⟨25, _⟩ => ⟨S256x128, .f32⟩
  | .hbm, ⟨26, _⟩ => ⟨S_, .f32⟩
  | .hbm, ⟨27, _⟩ => ⟨S1x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S1x128, .f32⟩
  | .hbm, ⟨34, _⟩ => ⟨S16384x128, .f32⟩
  | .hbm, ⟨35, _⟩ => ⟨S16384x2, .f32⟩
  | .local .tc .vmem, ⟨0, _⟩ => ⟨S1024x128, .f32⟩
  | .local .tc .vmem, ⟨1, _⟩ => ⟨S1024x128, .f32⟩
  | .local .tc .vmem, ⟨2, _⟩ => ⟨S1024x128, .f32⟩
  | .local .tc .vmem, ⟨3, _⟩ => ⟨S1024x128, .f32⟩
  | .local .tc .vmem, ⟨4, _⟩ => ⟨S32x128, .f32⟩
  | .local .tc .vmem, ⟨5, _⟩ => ⟨S64x256, .f32⟩
  | .local .tc .vmem, ⟨6, _⟩ => ⟨S1x256, .f32⟩
  | .local .tc .vmem, ⟨7, _⟩ => ⟨S256x128, .f32⟩
  | .local .tc .vmem, ⟨8, _⟩ => ⟨S1x128, .f32⟩
  | .local .tc .vmem, ⟨9, _⟩ => ⟨S1024x128, .f32⟩
  | .local .tc .vmem, ⟨10, _⟩ => ⟨S1024x128, .f32⟩
  | .local .scVector .vmem, ⟨0, _⟩ => ⟨S512, .i32⟩
  | .local .scVector .vmem, ⟨1, _⟩ => ⟨S512, .i32⟩
  | .local .scVector .vmem, ⟨2, _⟩ => ⟨S512x128, .f32⟩
  | .local .scVector .vmem, ⟨3, _⟩ => ⟨S128, .f32⟩
  | _, _ => ⟨S819200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_c_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_arg0_scv : Ref sig .scVector := ⟨.hbm, 0, rfl⟩
abbrev main_v0_scv : Ref sig .scVector := ⟨.hbm, 7, rfl⟩
abbrev main_v1_0_scv : Ref sig .scVector := ⟨.hbm, 8, rfl⟩
abbrev main_v1_1_scv : Ref sig .scVector := ⟨.hbm, 9, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg7_1 : Ref sig .tc := ⟨.vmem, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k0_off2 (k0_t1 : Fin k0_t1_loop.trips) : Fin 1 → Nat :=
  let c0_i32_0 : BitVec 32 := 0#32
  let c1_i32 : BitVec 32 := 1#32
  let arg11 : BitVec 32 := Scf.iv c0_i32_0 c1_i32 k0_t1
  let c16_i32 : BitVec 32 := 16#32
  let v37 : BitVec 32 := Scalar.muli arg11 c16_i32
  let v38 : Index := Scalar.indexCast v37
  ![v38.toNat]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_9_r1 : BitVec 32 := 0#32
  ![v2.toNat, 0]
@[reducible] def k0_t2_loop : Scf.Loop 32 :=
  let c0_i32_6 : BitVec 32 := 0#32
  let c49_i32 : BitVec 32 := 49#32
  let v10 : BitVec 32 := Scalar.addi c0_i32_6 c49_i32
  let c1_i32_7 : BitVec 32 := 1#32
  ⟨c0_i32_6, v10, c1_i32_7⟩
def k0_off4 (i : grid0.Coords) (k0_t2 : Fin k0_t2_loop.trips) : Fin 1 → Nat :=
  let c16384_i32 : BitVec 32 := 16384#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25088_i32 : BitVec 32 := 25088#32
  let v7 : BitVec 32 := Scalar.muli v1 c25088_i32
  let v8 : BitVec 32 := Scalar.addi c16384_i32 v7
  let c0_i32_6 : BitVec 32 := 0#32
  let c1_i32_7 : BitVec 32 := 1#32
  let arg11 : BitVec 32 := Scf.iv c0_i32_6 c1_i32_7 k0_t2
  let c512_i32_9 : BitVec 32 := 512#32
  let v37 : BitVec 32 := Scalar.muli arg11 c512_i32_9
  let v38 : BitVec 32 := Scalar.addi v8 v37
  ![v38.toNat]
@[reducible] def k0_t3_loop : Scf.Loop 32 :=
  let c0_i32_11 : BitVec 32 := 0#32
  let c32_i32_12 : BitVec 32 := 32#32
  let v39 : BitVec 32 := Scalar.addi c0_i32_11 c32_i32_12
  let c1_i32_13 : BitVec 32 := 1#32
  ⟨c0_i32_11, v39, c1_i32_13⟩
def k0_off5 (k0_t3 : Fin k0_t3_loop.trips) : Fin 1 → Nat :=
  let c0_i32_11 : BitVec 32 := 0#32
  let c1_i32_13 : BitVec 32 := 1#32
  let arg16 : BitVec 32 := Scf.iv c0_i32_11 c1_i32_13 k0_t3
  let c16_i32 : BitVec 32 := 16#32
  let v45 : BitVec 32 := Scalar.muli arg16 c16_i32
  let v46 : Index := Scalar.indexCast v45
  ![v46.toNat]
@[reducible] def k0_t4_loop : Scf.Loop 32 :=
  let c0_i32_19 : BitVec 32 := 0#32
  let c32_i32_20 : BitVec 32 := 32#32
  let v43 : BitVec 32 := Scalar.addi c0_i32_19 c32_i32_20
  let c1_i32_21 : BitVec 32 := 1#32
  ⟨c0_i32_19, v43, c1_i32_21⟩
def k0_off6 (k0_t4 : Fin k0_t4_loop.trips) : Fin 1 → Nat :=
  let c0_i32_19 : BitVec 32 := 0#32
  let c1_i32_21 : BitVec 32 := 1#32
  let arg16 : BitVec 32 := Scf.iv c0_i32_19 c1_i32_21 k0_t4
  let c16_i32 : BitVec 32 := 16#32
  let v45 : BitVec 32 := Scalar.muli arg16 c16_i32
  let v46 : Index := Scalar.indexCast v45
  ![v46.toNat]
def k0_off7 (k0_t4 : Fin k0_t4_loop.trips) (v54 : BitVec 32) : Fin 2 → Nat :=
  let c0_i32_19 : BitVec 32 := 0#32
  let c1_i32_21 : BitVec 32 := 1#32
  let arg16 : BitVec 32 := Scf.iv c0_i32_19 c1_i32_21 k0_t4
  let c16_i32_24 : BitVec 32 := 16#32
  let v55 : BitVec 32 := Scalar.muli arg16 c16_i32_24
  let c0_i32_25 : BitVec 32 := 0#32
  let v56 : BitVec 32 := Scalar.addi v55 c0_i32_25
  let v57 : Index := Scalar.indexCast v56
  let v58 : Index := Scalar.indexCast v54
  ![v57.toNat, v58.toNat]

def k0_off8 (k0_t4 : Fin k0_t4_loop.trips) (v54 : BitVec 32) (c16_i32_26 : BitVec 32) : Fin 2 → Nat :=
  let c0_i32_19 : BitVec 32 := 0#32
  let c1_i32_21 : BitVec 32 := 1#32
  let arg16 : BitVec 32 := Scf.iv c0_i32_19 c1_i32_21 k0_t4
  let c16_i32_24 : BitVec 32 := 16#32
  let v55 : BitVec 32 := Scalar.muli arg16 c16_i32_24
  let c0_i32_25 : BitVec 32 := 0#32
  let v56 : BitVec 32 := Scalar.addi v55 c0_i32_25
  let v63 : Index := Scalar.indexCast v56
  let v62 : BitVec 32 := Scalar.addi v54 c16_i32_26
  let v64 : Index := Scalar.indexCast v62
  ![v63.toNat, v64.toNat]

def k0_chk1 (k0_t4 : Fin k0_t4_loop.trips) (v54 : BitVec 32) : Prop :=
  (∀ a, (k0_off7 k0_t4 v54) a + S1x16.size a ≤ S512x128.size a) ∧
  (∀ (r : Fin 3), ∀ a, (k0_off8 k0_t4 v54 (BitVec.ofNat 32 (16 + 16 * r.val))) a + S1x16.size a ≤ S512x128.size a)
theorem k0_off7_inb : ∀ (k0_t4 : Fin k0_t4_loop.trips) (v54 : BitVec 32) (k0_hw1 : k0_chk1 k0_t4 v54), ∀ a, (k0_off7 k0_t4 v54) a + S1x16.size a ≤ S512x128.size a := fun k0_t4 v54 k0_hw1 => k0_hw1.1
theorem k0_off8_inb : ∀ (k0_t4 : Fin k0_t4_loop.trips) (v54 : BitVec 32) (k0_hw1 : k0_chk1 k0_t4 v54), ∀ (r : Fin 3), ∀ a, (k0_off8 k0_t4 v54 (BitVec.ofNat 32 (16 + 16 * r.val))) a + S1x16.size a ≤ S512x128.size a := fun k0_t4 v54 k0_hw1 r => k0_hw1.2 r

def k0_off9 (k0_t4 : Fin k0_t4_loop.trips) (v81 : BitVec 32) : Fin 2 → Nat :=
  let c0_i32_19 : BitVec 32 := 0#32
  let c1_i32_21 : BitVec 32 := 1#32
  let arg16 : BitVec 32 := Scf.iv c0_i32_19 c1_i32_21 k0_t4
  let c16_i32_28 : BitVec 32 := 16#32
  let v82 : BitVec 32 := Scalar.muli arg16 c16_i32_28
  let c1_i32_29 : BitVec 32 := 1#32
  let v83 : BitVec 32 := Scalar.addi v82 c1_i32_29
  let v84 : Index := Scalar.indexCast v83
  let v85 : Index := Scalar.indexCast v81
  ![v84.toNat, v85.toNat]

def k0_off10 (k0_t4 : Fin k0_t4_loop.trips) (v81 : BitVec 32) (c16_i32_30 : BitVec 32) : Fin 2 → Nat :=
  let c0_i32_19 : BitVec 32 := 0#32
  let c1_i32_21 : BitVec 32 := 1#32
  let arg16 : BitVec 32 := Scf.iv c0_i32_19 c1_i32_21 k0_t4
  let c16_i32_28 : BitVec 32 := 16#32
  let v82 : BitVec 32 := Scalar.muli arg16 c16_i32_28
  let c1_i32_29 : BitVec 32 := 1#32
  let v83 : BitVec 32 := Scalar.addi v82 c1_i32_29
  let v90 : Index := Scalar.indexCast v83
  let v89 : BitVec 32 := Scalar.addi v81 c16_i32_30
  let v91 : Index := Scalar.indexCast v89
  ![v90.toNat, v91.toNat]

def k0_chk2 (k0_t4 : Fin k0_t4_loop.trips) (v81 : BitVec 32) : Prop :=
  (∀ a, (k0_off9 k0_t4 v81) a + S1x16.size a ≤ S512x128.size a) ∧
  (∀ (r : Fin 3), ∀ a, (k0_off10 k0_t4 v81 (BitVec.ofNat 32 (16 + 16 * r.val))) a + S1x16.size a ≤ S512x128.size a)
theorem k0_off9_inb : ∀ (k0_t4 : Fin k0_t4_loop.trips) (v81 : BitVec 32) (k0_hw2 : k0_chk2 k0_t4 v81), ∀ a, (k0_off9 k0_t4 v81) a + S1x16.size a ≤ S512x128.size a := fun k0_t4 v81 k0_hw2 => k0_hw2.1
theorem k0_off10_inb : ∀ (k0_t4 : Fin k0_t4_loop.trips) (v81 : BitVec 32) (k0_hw2 : k0_chk2 k0_t4 v81), ∀ (r : Fin 3), ∀ a, (k0_off10 k0_t4 v81 (BitVec.ofNat 32 (16 + 16 * r.val))) a + S1x16.size a ≤ S512x128.size a := fun k0_t4 v81 k0_hw2 r => k0_hw2.2 r

def k0_off11 (k0_t4 : Fin k0_t4_loop.trips) (v108 : BitVec 32) : Fin 2 → Nat :=
  let c0_i32_19 : BitVec 32 := 0#32
  let c1_i32_21 : BitVec 32 := 1#32
  let arg16 : BitVec 32 := Scf.iv c0_i32_19 c1_i32_21 k0_t4
  let c16_i32_33 : BitVec 32 := 16#32
  let v109 : BitVec 32 := Scalar.muli arg16 c16_i32_33
  let c2_i32_34 : BitVec 32 := 2#32
  let v110 : BitVec 32 := Scalar.addi v109 c2_i32_34
  let v111 : Index := Scalar.indexCast v110
  let v112 : Index := Scalar.indexCast v108
  ![v111.toNat, v112.toNat]

def k0_off12 (k0_t4 : Fin k0_t4_loop.trips) (v108 : BitVec 32) (c16_i32_35 : BitVec 32) : Fin 2 → Nat :=
  let c0_i32_19 : BitVec 32 := 0#32
  let c1_i32_21 : BitVec 32 := 1#32
  let arg16 : BitVec 32 := Scf.iv c0_i32_19 c1_i32_21 k0_t4
  let c16_i32_33 : BitVec 32 := 16#32
  let v109 : BitVec 32 := Scalar.muli arg16 c16_i32_33
  let c2_i32_34 : BitVec 32 := 2#32
  let v110 : BitVec 32 := Scalar.addi v109 c2_i32_34
  let v117 : Index := Scalar.indexCast v110
  let v116 : BitVec 32 := Scalar.addi v108 c16_i32_35
  let v118 : Index := Scalar.indexCast v116
  ![v117.toNat, v118.toNat]

def k0_chk3 (k0_t4 : Fin k0_t4_loop.trips) (v108 : BitVec 32) : Prop :=
  (∀ a, (k0_off11 k0_t4 v108) a + S1x16.size a ≤ S512x128.size a) ∧
  (∀ (r : Fin 3), ∀ a, (k0_off12 k0_t4 v108 (BitVec.ofNat 32 (16 + 16 * r.val))) a + S1x16.size a ≤ S512x128.size a)
theorem k0_off11_inb : ∀ (k0_t4 : Fin k0_t4_loop.trips) (v108 : BitVec 32) (k0_hw3 : k0_chk3 k0_t4 v108), ∀ a, (k0_off11 k0_t4 v108) a + S1x16.size a ≤ S512x128.size a := fun k0_t4 v108 k0_hw3 => k0_hw3.1
theorem k0_off12_inb : ∀ (k0_t4 : Fin k0_t4_loop.trips) (v108 : BitVec 32) (k0_hw3 : k0_chk3 k0_t4 v108), ∀ (r : Fin 3), ∀ a, (k0_off12 k0_t4 v108 (BitVec.ofNat 32 (16 + 16 * r.val))) a + S1x16.size a ≤ S512x128.size a := fun k0_t4 v108 k0_hw3 r => k0_hw3.2 r

def k0_off13 (k0_t4 : Fin k0_t4_loop.trips) (v135 : BitVec 32) : Fin 2 → Nat :=
  let c0_i32_19 : BitVec 32 := 0#32
  let c1_i32_21 : BitVec 32 := 1#32
  let arg16 : BitVec 32 := Scf.iv c0_i32_19 c1_i32_21 k0_t4
  let c16_i32_38 : BitVec 32 := 16#32
  let v136 : BitVec 32 := Scalar.muli arg16 c16_i32_38
  let c3_i32 : BitVec 32 := 3#32
  let v137 : BitVec 32 := Scalar.addi v136 c3_i32
  let v138 : Index := Scalar.indexCast v137
  let v139 : Index := Scalar.indexCast v135
  ![v138.toNat, v139.toNat]

def k0_off14 (k0_t4 : Fin k0_t4_loop.trips) (v135 : BitVec 32) (c16_i32_39 : BitVec 32) : Fin 2 → Nat :=
  let c0_i32_19 : BitVec 32 := 0#32
  let c1_i32_21 : BitVec 32 := 1#32
  let arg16 : BitVec 32 := Scf.iv c0_i32_19 c1_i32_21 k0_t4
  let c16_i32_38 : BitVec 32 := 16#32
  let v136 : BitVec 32 := Scalar.muli arg16 c16_i32_38
  let c3_i32 : BitVec 32 := 3#32
  let v137 : BitVec 32 := Scalar.addi v136 c3_i32
  let v144 : Index := Scalar.indexCast v137
  let v143 : BitVec 32 := Scalar.addi v135 c16_i32_39
  let v145 : Index := Scalar.indexCast v143
  ![v144.toNat, v145.toNat]

def k0_chk4 (k0_t4 : Fin k0_t4_loop.trips) (v135 : BitVec 32) : Prop :=
  (∀ a, (k0_off13 k0_t4 v135) a + S1x16.size a ≤ S512x128.size a) ∧
  (∀ (r : Fin 3), ∀ a, (k0_off14 k0_t4 v135 (BitVec.ofNat 32 (16 + 16 * r.val))) a + S1x16.size a ≤ S512x128.size a)
theorem k0_off13_inb : ∀ (k0_t4 : Fin k0_t4_loop.trips) (v135 : BitVec 32) (k0_hw4 : k0_chk4 k0_t4 v135), ∀ a, (k0_off13 k0_t4 v135) a + S1x16.size a ≤ S512x128.size a := fun k0_t4 v135 k0_hw4 => k0_hw4.1
theorem k0_off14_inb : ∀ (k0_t4 : Fin k0_t4_loop.trips) (v135 : BitVec 32) (k0_hw4 : k0_chk4 k0_t4 v135), ∀ (r : Fin 3), ∀ a, (k0_off14 k0_t4 v135 (BitVec.ofNat 32 (16 + 16 * r.val))) a + S1x16.size a ≤ S512x128.size a := fun k0_t4 v135 k0_hw4 r => k0_hw4.2 r

def k0_off15 (k0_t4 : Fin k0_t4_loop.trips) (v162 : BitVec 32) : Fin 2 → Nat :=
  let c0_i32_19 : BitVec 32 := 0#32
  let c1_i32_21 : BitVec 32 := 1#32
  let arg16 : BitVec 32 := Scf.iv c0_i32_19 c1_i32_21 k0_t4
  let c16_i32_42 : BitVec 32 := 16#32
  let v163 : BitVec 32 := Scalar.muli arg16 c16_i32_42
  let c4_i32 : BitVec 32 := 4#32
  let v164 : BitVec 32 := Scalar.addi v163 c4_i32
  let v165 : Index := Scalar.indexCast v164
  let v166 : Index := Scalar.indexCast v162
  ![v165.toNat, v166.toNat]

def k0_off16 (k0_t4 : Fin k0_t4_loop.trips) (v162 : BitVec 32) (c16_i32_43 : BitVec 32) : Fin 2 → Nat :=
  let c0_i32_19 : BitVec 32 := 0#32
  let c1_i32_21 : BitVec 32 := 1#32
  let arg16 : BitVec 32 := Scf.iv c0_i32_19 c1_i32_21 k0_t4
  let c16_i32_42 : BitVec 32 := 16#32
  let v163 : BitVec 32 := Scalar.muli arg16 c16_i32_42
  let c4_i32 : BitVec 32 := 4#32
  let v164 : BitVec 32 := Scalar.addi v163 c4_i32
  let v171 : Index := Scalar.indexCast v164
  let v170 : BitVec 32 := Scalar.addi v162 c16_i32_43
  let v172 : Index := Scalar.indexCast v170
  ![v171.toNat, v172.toNat]

def k0_chk5 (k0_t4 : Fin k0_t4_loop.trips) (v162 : BitVec 32) : Prop :=
  (∀ a, (k0_off15 k0_t4 v162) a + S1x16.size a ≤ S512x128.size a) ∧
  (∀ (r : Fin 3), ∀ a, (k0_off16 k0_t4 v162 (BitVec.ofNat 32 (16 + 16 * r.val))) a + S1x16.size a ≤ S512x128.size a)
theorem k0_off15_inb : ∀ (k0_t4 : Fin k0_t4_loop.trips) (v162 : BitVec 32) (k0_hw5 : k0_chk5 k0_t4 v162), ∀ a, (k0_off15 k0_t4 v162) a + S1x16.size a ≤ S512x128.size a := fun k0_t4 v162 k0_hw5 => k0_hw5.1
theorem k0_off16_inb : ∀ (k0_t4 : Fin k0_t4_loop.trips) (v162 : BitVec 32) (k0_hw5 : k0_chk5 k0_t4 v162), ∀ (r : Fin 3), ∀ a, (k0_off16 k0_t4 v162 (BitVec.ofNat 32 (16 + 16 * r.val))) a + S1x16.size a ≤ S512x128.size a := fun k0_t4 v162 k0_hw5 r => k0_hw5.2 r

def k0_off17 (k0_t4 : Fin k0_t4_loop.trips) (v189 : BitVec 32) : Fin 2 → Nat :=
  let c0_i32_19 : BitVec 32 := 0#32
  let c1_i32_21 : BitVec 32 := 1#32
  let arg16 : BitVec 32 := Scf.iv c0_i32_19 c1_i32_21 k0_t4
  let c16_i32_46 : BitVec 32 := 16#32
  let v190 : BitVec 32 := Scalar.muli arg16 c16_i32_46
  let c5_i32 : BitVec 32 := 5#32
  let v191 : BitVec 32 := Scalar.addi v190 c5_i32
  let v192 : Index := Scalar.indexCast v191
  let v193 : Index := Scalar.indexCast v189
  ![v192.toNat, v193.toNat]

def k0_off18 (k0_t4 : Fin k0_t4_loop.trips) (v189 : BitVec 32) (c16_i32_47 : BitVec 32) : Fin 2 → Nat :=
  let c0_i32_19 : BitVec 32 := 0#32
  let c1_i32_21 : BitVec 32 := 1#32
  let arg16 : BitVec 32 := Scf.iv c0_i32_19 c1_i32_21 k0_t4
  let c16_i32_46 : BitVec 32 := 16#32
  let v190 : BitVec 32 := Scalar.muli arg16 c16_i32_46
  let c5_i32 : BitVec 32 := 5#32
  let v191 : BitVec 32 := Scalar.addi v190 c5_i32
  let v198 : Index := Scalar.indexCast v191
  let v197 : BitVec 32 := Scalar.addi v189 c16_i32_47
  let v199 : Index := Scalar.indexCast v197
  ![v198.toNat, v199.toNat]

def k0_chk6 (k0_t4 : Fin k0_t4_loop.trips) (v189 : BitVec 32) : Prop :=
  (∀ a, (k0_off17 k0_t4 v189) a + S1x16.size a ≤ S512x128.size a) ∧
  (∀ (r : Fin 3), ∀ a, (k0_off18 k0_t4 v189 (BitVec.ofNat 32 (16 + 16 * r.val))) a + S1x16.size a ≤ S512x128.size a)
theorem k0_off17_inb : ∀ (k0_t4 : Fin k0_t4_loop.trips) (v189 : BitVec 32) (k0_hw6 : k0_chk6 k0_t4 v189), ∀ a, (k0_off17 k0_t4 v189) a + S1x16.size a ≤ S512x128.size a := fun k0_t4 v189 k0_hw6 => k0_hw6.1
theorem k0_off18_inb : ∀ (k0_t4 : Fin k0_t4_loop.trips) (v189 : BitVec 32) (k0_hw6 : k0_chk6 k0_t4 v189), ∀ (r : Fin 3), ∀ a, (k0_off18 k0_t4 v189 (BitVec.ofNat 32 (16 + 16 * r.val))) a + S1x16.size a ≤ S512x128.size a := fun k0_t4 v189 k0_hw6 r => k0_hw6.2 r

def k0_off19 (k0_t4 : Fin k0_t4_loop.trips) (v216 : BitVec 32) : Fin 2 → Nat :=
  let c0_i32_19 : BitVec 32 := 0#32
  let c1_i32_21 : BitVec 32 := 1#32
  let arg16 : BitVec 32 := Scf.iv c0_i32_19 c1_i32_21 k0_t4
  let c16_i32_50 : BitVec 32 := 16#32
  let v217 : BitVec 32 := Scalar.muli arg16 c16_i32_50
  let c6_i32 : BitVec 32 := 6#32
  let v218 : BitVec 32 := Scalar.addi v217 c6_i32
  let v219 : Index := Scalar.indexCast v218
  let v220 : Index := Scalar.indexCast v216
  ![v219.toNat, v220.toNat]

def k0_off20 (k0_t4 : Fin k0_t4_loop.trips) (v216 : BitVec 32) (c16_i32_51 : BitVec 32) : Fin 2 → Nat :=
  let c0_i32_19 : BitVec 32 := 0#32
  let c1_i32_21 : BitVec 32 := 1#32
  let arg16 : BitVec 32 := Scf.iv c0_i32_19 c1_i32_21 k0_t4
  let c16_i32_50 : BitVec 32 := 16#32
  let v217 : BitVec 32 := Scalar.muli arg16 c16_i32_50
  let c6_i32 : BitVec 32 := 6#32
  let v218 : BitVec 32 := Scalar.addi v217 c6_i32
  let v225 : Index := Scalar.indexCast v218
  let v224 : BitVec 32 := Scalar.addi v216 c16_i32_51
  let v226 : Index := Scalar.indexCast v224
  ![v225.toNat, v226.toNat]

def k0_chk7 (k0_t4 : Fin k0_t4_loop.trips) (v216 : BitVec 32) : Prop :=
  (∀ a, (k0_off19 k0_t4 v216) a + S1x16.size a ≤ S512x128.size a) ∧
  (∀ (r : Fin 3), ∀ a, (k0_off20 k0_t4 v216 (BitVec.ofNat 32 (16 + 16 * r.val))) a + S1x16.size a ≤ S512x128.size a)
theorem k0_off19_inb : ∀ (k0_t4 : Fin k0_t4_loop.trips) (v216 : BitVec 32) (k0_hw7 : k0_chk7 k0_t4 v216), ∀ a, (k0_off19 k0_t4 v216) a + S1x16.size a ≤ S512x128.size a := fun k0_t4 v216 k0_hw7 => k0_hw7.1
theorem k0_off20_inb : ∀ (k0_t4 : Fin k0_t4_loop.trips) (v216 : BitVec 32) (k0_hw7 : k0_chk7 k0_t4 v216), ∀ (r : Fin 3), ∀ a, (k0_off20 k0_t4 v216 (BitVec.ofNat 32 (16 + 16 * r.val))) a + S1x16.size a ≤ S512x128.size a := fun k0_t4 v216 k0_hw7 r => k0_hw7.2 r

def k0_off21 (k0_t4 : Fin k0_t4_loop.trips) (v243 : BitVec 32) : Fin 2 → Nat :=
  let c0_i32_19 : BitVec 32 := 0#32
  let c1_i32_21 : BitVec 32 := 1#32
  let arg16 : BitVec 32 := Scf.iv c0_i32_19 c1_i32_21 k0_t4
  let c16_i32_54 : BitVec 32 := 16#32
  let v244 : BitVec 32 := Scalar.muli arg16 c16_i32_54
  let c7_i32 : BitVec 32 := 7#32
  let v245 : BitVec 32 := Scalar.addi v244 c7_i32
  let v246 : Index := Scalar.indexCast v245
  let v247 : Index := Scalar.indexCast v243
  ![v246.toNat, v247.toNat]

def k0_off22 (k0_t4 : Fin k0_t4_loop.trips) (v243 : BitVec 32) (c16_i32_55 : BitVec 32) : Fin 2 → Nat :=
  let c0_i32_19 : BitVec 32 := 0#32
  let c1_i32_21 : BitVec 32 := 1#32
  let arg16 : BitVec 32 := Scf.iv c0_i32_19 c1_i32_21 k0_t4
  let c16_i32_54 : BitVec 32 := 16#32
  let v244 : BitVec 32 := Scalar.muli arg16 c16_i32_54
  let c7_i32 : BitVec 32 := 7#32
  let v245 : BitVec 32 := Scalar.addi v244 c7_i32
  let v252 : Index := Scalar.indexCast v245
  let v251 : BitVec 32 := Scalar.addi v243 c16_i32_55
  let v253 : Index := Scalar.indexCast v251
  ![v252.toNat, v253.toNat]

def k0_chk8 (k0_t4 : Fin k0_t4_loop.trips) (v243 : BitVec 32) : Prop :=
  (∀ a, (k0_off21 k0_t4 v243) a + S1x16.size a ≤ S512x128.size a) ∧
  (∀ (r : Fin 3), ∀ a, (k0_off22 k0_t4 v243 (BitVec.ofNat 32 (16 + 16 * r.val))) a + S1x16.size a ≤ S512x128.size a)
theorem k0_off21_inb : ∀ (k0_t4 : Fin k0_t4_loop.trips) (v243 : BitVec 32) (k0_hw8 : k0_chk8 k0_t4 v243), ∀ a, (k0_off21 k0_t4 v243) a + S1x16.size a ≤ S512x128.size a := fun k0_t4 v243 k0_hw8 => k0_hw8.1
theorem k0_off22_inb : ∀ (k0_t4 : Fin k0_t4_loop.trips) (v243 : BitVec 32) (k0_hw8 : k0_chk8 k0_t4 v243), ∀ (r : Fin 3), ∀ a, (k0_off22 k0_t4 v243 (BitVec.ofNat 32 (16 + 16 * r.val))) a + S1x16.size a ≤ S512x128.size a := fun k0_t4 v243 k0_hw8 r => k0_hw8.2 r

def k0_off23 (k0_t4 : Fin k0_t4_loop.trips) (v270 : BitVec 32) : Fin 2 → Nat :=
  let c0_i32_19 : BitVec 32 := 0#32
  let c1_i32_21 : BitVec 32 := 1#32
  let arg16 : BitVec 32 := Scf.iv c0_i32_19 c1_i32_21 k0_t4
  let c16_i32_58 : BitVec 32 := 16#32
  let v271 : BitVec 32 := Scalar.muli arg16 c16_i32_58
  let c8_i32 : BitVec 32 := 8#32
  let v272 : BitVec 32 := Scalar.addi v271 c8_i32
  let v273 : Index := Scalar.indexCast v272
  let v274 : Index := Scalar.indexCast v270
  ![v273.toNat, v274.toNat]

def k0_off24 (k0_t4 : Fin k0_t4_loop.trips) (v270 : BitVec 32) (c16_i32_59 : BitVec 32) : Fin 2 → Nat :=
  let c0_i32_19 : BitVec 32 := 0#32
  let c1_i32_21 : BitVec 32 := 1#32
  let arg16 : BitVec 32 := Scf.iv c0_i32_19 c1_i32_21 k0_t4
  let c16_i32_58 : BitVec 32 := 16#32
  let v271 : BitVec 32 := Scalar.muli arg16 c16_i32_58
  let c8_i32 : BitVec 32 := 8#32
  let v272 : BitVec 32 := Scalar.addi v271 c8_i32
  let v279 : Index := Scalar.indexCast v272
  let v278 : BitVec 32 := Scalar.addi v270 c16_i32_59
  let v280 : Index := Scalar.indexCast v278
  ![v279.toNat, v280.toNat]

def k0_chk9 (k0_t4 : Fin k0_t4_loop.trips) (v270 : BitVec 32) : Prop :=
  (∀ a, (k0_off23 k0_t4 v270) a + S1x16.size a ≤ S512x128.size a) ∧
  (∀ (r : Fin 3), ∀ a, (k0_off24 k0_t4 v270 (BitVec.ofNat 32 (16 + 16 * r.val))) a + S1x16.size a ≤ S512x128.size a)
theorem k0_off23_inb : ∀ (k0_t4 : Fin k0_t4_loop.trips) (v270 : BitVec 32) (k0_hw9 : k0_chk9 k0_t4 v270), ∀ a, (k0_off23 k0_t4 v270) a + S1x16.size a ≤ S512x128.size a := fun k0_t4 v270 k0_hw9 => k0_hw9.1
theorem k0_off24_inb : ∀ (k0_t4 : Fin k0_t4_loop.trips) (v270 : BitVec 32) (k0_hw9 : k0_chk9 k0_t4 v270), ∀ (r : Fin 3), ∀ a, (k0_off24 k0_t4 v270 (BitVec.ofNat 32 (16 + 16 * r.val))) a + S1x16.size a ≤ S512x128.size a := fun k0_t4 v270 k0_hw9 r => k0_hw9.2 r

def k0_off25 (k0_t4 : Fin k0_t4_loop.trips) (v297 : BitVec 32) : Fin 2 → Nat :=
  let c0_i32_19 : BitVec 32 := 0#32
  let c1_i32_21 : BitVec 32 := 1#32
  let arg16 : BitVec 32 := Scf.iv c0_i32_19 c1_i32_21 k0_t4
  let c16_i32_62 : BitVec 32 := 16#32
  let v298 : BitVec 32 := Scalar.muli arg16 c16_i32_62
  let c9_i32 : BitVec 32 := 9#32
  let v299 : BitVec 32 := Scalar.addi v298 c9_i32
  let v300 : Index := Scalar.indexCast v299
  let v301 : Index := Scalar.indexCast v297
  ![v300.toNat, v301.toNat]

def k0_off26 (k0_t4 : Fin k0_t4_loop.trips) (v297 : BitVec 32) (c16_i32_63 : BitVec 32) : Fin 2 → Nat :=
  let c0_i32_19 : BitVec 32 := 0#32
  let c1_i32_21 : BitVec 32 := 1#32
  let arg16 : BitVec 32 := Scf.iv c0_i32_19 c1_i32_21 k0_t4
  let c16_i32_62 : BitVec 32 := 16#32
  let v298 : BitVec 32 := Scalar.muli arg16 c16_i32_62
  let c9_i32 : BitVec 32 := 9#32
  let v299 : BitVec 32 := Scalar.addi v298 c9_i32
  let v306 : Index := Scalar.indexCast v299
  let v305 : BitVec 32 := Scalar.addi v297 c16_i32_63
  let v307 : Index := Scalar.indexCast v305
  ![v306.toNat, v307.toNat]

def k0_chk10 (k0_t4 : Fin k0_t4_loop.trips) (v297 : BitVec 32) : Prop :=
  (∀ a, (k0_off25 k0_t4 v297) a + S1x16.size a ≤ S512x128.size a) ∧
  (∀ (r : Fin 3), ∀ a, (k0_off26 k0_t4 v297 (BitVec.ofNat 32 (16 + 16 * r.val))) a + S1x16.size a ≤ S512x128.size a)
theorem k0_off25_inb : ∀ (k0_t4 : Fin k0_t4_loop.trips) (v297 : BitVec 32) (k0_hw10 : k0_chk10 k0_t4 v297), ∀ a, (k0_off25 k0_t4 v297) a + S1x16.size a ≤ S512x128.size a := fun k0_t4 v297 k0_hw10 => k0_hw10.1
theorem k0_off26_inb : ∀ (k0_t4 : Fin k0_t4_loop.trips) (v297 : BitVec 32) (k0_hw10 : k0_chk10 k0_t4 v297), ∀ (r : Fin 3), ∀ a, (k0_off26 k0_t4 v297 (BitVec.ofNat 32 (16 + 16 * r.val))) a + S1x16.size a ≤ S512x128.size a := fun k0_t4 v297 k0_hw10 r => k0_hw10.2 r

def k0_off27 (k0_t4 : Fin k0_t4_loop.trips) (v324 : BitVec 32) : Fin 2 → Nat :=
  let c0_i32_19 : BitVec 32 := 0#32
  let c1_i32_21 : BitVec 32 := 1#32
  let arg16 : BitVec 32 := Scf.iv c0_i32_19 c1_i32_21 k0_t4
  let c16_i32_66 : BitVec 32 := 16#32
  let v325 : BitVec 32 := Scalar.muli arg16 c16_i32_66
  let c10_i32 : BitVec 32 := 10#32
  let v326 : BitVec 32 := Scalar.addi v325 c10_i32
  let v327 : Index := Scalar.indexCast v326
  let v328 : Index := Scalar.indexCast v324
  ![v327.toNat, v328.toNat]

def k0_off28 (k0_t4 : Fin k0_t4_loop.trips) (v324 : BitVec 32) (c16_i32_67 : BitVec 32) : Fin 2 → Nat :=
  let c0_i32_19 : BitVec 32 := 0#32
  let c1_i32_21 : BitVec 32 := 1#32
  let arg16 : BitVec 32 := Scf.iv c0_i32_19 c1_i32_21 k0_t4
  let c16_i32_66 : BitVec 32 := 16#32
  let v325 : BitVec 32 := Scalar.muli arg16 c16_i32_66
  let c10_i32 : BitVec 32 := 10#32
  let v326 : BitVec 32 := Scalar.addi v325 c10_i32
  let v333 : Index := Scalar.indexCast v326
  let v332 : BitVec 32 := Scalar.addi v324 c16_i32_67
  let v334 : Index := Scalar.indexCast v332
  ![v333.toNat, v334.toNat]

def k0_chk11 (k0_t4 : Fin k0_t4_loop.trips) (v324 : BitVec 32) : Prop :=
  (∀ a, (k0_off27 k0_t4 v324) a + S1x16.size a ≤ S512x128.size a) ∧
  (∀ (r : Fin 3), ∀ a, (k0_off28 k0_t4 v324 (BitVec.ofNat 32 (16 + 16 * r.val))) a + S1x16.size a ≤ S512x128.size a)
theorem k0_off27_inb : ∀ (k0_t4 : Fin k0_t4_loop.trips) (v324 : BitVec 32) (k0_hw11 : k0_chk11 k0_t4 v324), ∀ a, (k0_off27 k0_t4 v324) a + S1x16.size a ≤ S512x128.size a := fun k0_t4 v324 k0_hw11 => k0_hw11.1
theorem k0_off28_inb : ∀ (k0_t4 : Fin k0_t4_loop.trips) (v324 : BitVec 32) (k0_hw11 : k0_chk11 k0_t4 v324), ∀ (r : Fin 3), ∀ a, (k0_off28 k0_t4 v324 (BitVec.ofNat 32 (16 + 16 * r.val))) a + S1x16.size a ≤ S512x128.size a := fun k0_t4 v324 k0_hw11 r => k0_hw11.2 r

def k0_off29 (k0_t4 : Fin k0_t4_loop.trips) (v351 : BitVec 32) : Fin 2 → Nat :=
  let c0_i32_19 : BitVec 32 := 0#32
  let c1_i32_21 : BitVec 32 := 1#32
  let arg16 : BitVec 32 := Scf.iv c0_i32_19 c1_i32_21 k0_t4
  let c16_i32_70 : BitVec 32 := 16#32
  let v352 : BitVec 32 := Scalar.muli arg16 c16_i32_70
  let c11_i32 : BitVec 32 := 11#32
  let v353 : BitVec 32 := Scalar.addi v352 c11_i32
  let v354 : Index := Scalar.indexCast v353
  let v355 : Index := Scalar.indexCast v351
  ![v354.toNat, v355.toNat]

def k0_off30 (k0_t4 : Fin k0_t4_loop.trips) (v351 : BitVec 32) (c16_i32_71 : BitVec 32) : Fin 2 → Nat :=
  let c0_i32_19 : BitVec 32 := 0#32
  let c1_i32_21 : BitVec 32 := 1#32
  let arg16 : BitVec 32 := Scf.iv c0_i32_19 c1_i32_21 k0_t4
  let c16_i32_70 : BitVec 32 := 16#32
  let v352 : BitVec 32 := Scalar.muli arg16 c16_i32_70
  let c11_i32 : BitVec 32 := 11#32
  let v353 : BitVec 32 := Scalar.addi v352 c11_i32
  let v360 : Index := Scalar.indexCast v353
  let v359 : BitVec 32 := Scalar.addi v351 c16_i32_71
  let v361 : Index := Scalar.indexCast v359
  ![v360.toNat, v361.toNat]

def k0_chk12 (k0_t4 : Fin k0_t4_loop.trips) (v351 : BitVec 32) : Prop :=
  (∀ a, (k0_off29 k0_t4 v351) a + S1x16.size a ≤ S512x128.size a) ∧
  (∀ (r : Fin 3), ∀ a, (k0_off30 k0_t4 v351 (BitVec.ofNat 32 (16 + 16 * r.val))) a + S1x16.size a ≤ S512x128.size a)
theorem k0_off29_inb : ∀ (k0_t4 : Fin k0_t4_loop.trips) (v351 : BitVec 32) (k0_hw12 : k0_chk12 k0_t4 v351), ∀ a, (k0_off29 k0_t4 v351) a + S1x16.size a ≤ S512x128.size a := fun k0_t4 v351 k0_hw12 => k0_hw12.1
theorem k0_off30_inb : ∀ (k0_t4 : Fin k0_t4_loop.trips) (v351 : BitVec 32) (k0_hw12 : k0_chk12 k0_t4 v351), ∀ (r : Fin 3), ∀ a, (k0_off30 k0_t4 v351 (BitVec.ofNat 32 (16 + 16 * r.val))) a + S1x16.size a ≤ S512x128.size a := fun k0_t4 v351 k0_hw12 r => k0_hw12.2 r

def k0_off31 (k0_t4 : Fin k0_t4_loop.trips) (v378 : BitVec 32) : Fin 2 → Nat :=
  let c0_i32_19 : BitVec 32 := 0#32
  let c1_i32_21 : BitVec 32 := 1#32
  let arg16 : BitVec 32 := Scf.iv c0_i32_19 c1_i32_21 k0_t4
  let c16_i32_74 : BitVec 32 := 16#32
  let v379 : BitVec 32 := Scalar.muli arg16 c16_i32_74
  let c12_i32 : BitVec 32 := 12#32
  let v380 : BitVec 32 := Scalar.addi v379 c12_i32
  let v381 : Index := Scalar.indexCast v380
  let v382 : Index := Scalar.indexCast v378
  ![v381.toNat, v382.toNat]

def k0_off32 (k0_t4 : Fin k0_t4_loop.trips) (v378 : BitVec 32) (c16_i32_75 : BitVec 32) : Fin 2 → Nat :=
  let c0_i32_19 : BitVec 32 := 0#32
  let c1_i32_21 : BitVec 32 := 1#32
  let arg16 : BitVec 32 := Scf.iv c0_i32_19 c1_i32_21 k0_t4
  let c16_i32_74 : BitVec 32 := 16#32
  let v379 : BitVec 32 := Scalar.muli arg16 c16_i32_74
  let c12_i32 : BitVec 32 := 12#32
  let v380 : BitVec 32 := Scalar.addi v379 c12_i32
  let v387 : Index := Scalar.indexCast v380
  let v386 : BitVec 32 := Scalar.addi v378 c16_i32_75
  let v388 : Index := Scalar.indexCast v386
  ![v387.toNat, v388.toNat]

def k0_chk13 (k0_t4 : Fin k0_t4_loop.trips) (v378 : BitVec 32) : Prop :=
  (∀ a, (k0_off31 k0_t4 v378) a + S1x16.size a ≤ S512x128.size a) ∧
  (∀ (r : Fin 3), ∀ a, (k0_off32 k0_t4 v378 (BitVec.ofNat 32 (16 + 16 * r.val))) a + S1x16.size a ≤ S512x128.size a)
theorem k0_off31_inb : ∀ (k0_t4 : Fin k0_t4_loop.trips) (v378 : BitVec 32) (k0_hw13 : k0_chk13 k0_t4 v378), ∀ a, (k0_off31 k0_t4 v378) a + S1x16.size a ≤ S512x128.size a := fun k0_t4 v378 k0_hw13 => k0_hw13.1
theorem k0_off32_inb : ∀ (k0_t4 : Fin k0_t4_loop.trips) (v378 : BitVec 32) (k0_hw13 : k0_chk13 k0_t4 v378), ∀ (r : Fin 3), ∀ a, (k0_off32 k0_t4 v378 (BitVec.ofNat 32 (16 + 16 * r.val))) a + S1x16.size a ≤ S512x128.size a := fun k0_t4 v378 k0_hw13 r => k0_hw13.2 r

def k0_off33 (k0_t4 : Fin k0_t4_loop.trips) (v405 : BitVec 32) : Fin 2 → Nat :=
  let c0_i32_19 : BitVec 32 := 0#32
  let c1_i32_21 : BitVec 32 := 1#32
  let arg16 : BitVec 32 := Scf.iv c0_i32_19 c1_i32_21 k0_t4
  let c16_i32_78 : BitVec 32 := 16#32
  let v406 : BitVec 32 := Scalar.muli arg16 c16_i32_78
  let c13_i32 : BitVec 32 := 13#32
  let v407 : BitVec 32 := Scalar.addi v406 c13_i32
  let v408 : Index := Scalar.indexCast v407
  let v409 : Index := Scalar.indexCast v405
  ![v408.toNat, v409.toNat]

def k0_off34 (k0_t4 : Fin k0_t4_loop.trips) (v405 : BitVec 32) (c16_i32_79 : BitVec 32) : Fin 2 → Nat :=
  let c0_i32_19 : BitVec 32 := 0#32
  let c1_i32_21 : BitVec 32 := 1#32
  let arg16 : BitVec 32 := Scf.iv c0_i32_19 c1_i32_21 k0_t4
  let c16_i32_78 : BitVec 32 := 16#32
  let v406 : BitVec 32 := Scalar.muli arg16 c16_i32_78
  let c13_i32 : BitVec 32 := 13#32
  let v407 : BitVec 32 := Scalar.addi v406 c13_i32
  let v414 : Index := Scalar.indexCast v407
  let v413 : BitVec 32 := Scalar.addi v405 c16_i32_79
  let v415 : Index := Scalar.indexCast v413
  ![v414.toNat, v415.toNat]

def k0_chk14 (k0_t4 : Fin k0_t4_loop.trips) (v405 : BitVec 32) : Prop :=
  (∀ a, (k0_off33 k0_t4 v405) a + S1x16.size a ≤ S512x128.size a) ∧
  (∀ (r : Fin 3), ∀ a, (k0_off34 k0_t4 v405 (BitVec.ofNat 32 (16 + 16 * r.val))) a + S1x16.size a ≤ S512x128.size a)
theorem k0_off33_inb : ∀ (k0_t4 : Fin k0_t4_loop.trips) (v405 : BitVec 32) (k0_hw14 : k0_chk14 k0_t4 v405), ∀ a, (k0_off33 k0_t4 v405) a + S1x16.size a ≤ S512x128.size a := fun k0_t4 v405 k0_hw14 => k0_hw14.1
theorem k0_off34_inb : ∀ (k0_t4 : Fin k0_t4_loop.trips) (v405 : BitVec 32) (k0_hw14 : k0_chk14 k0_t4 v405), ∀ (r : Fin 3), ∀ a, (k0_off34 k0_t4 v405 (BitVec.ofNat 32 (16 + 16 * r.val))) a + S1x16.size a ≤ S512x128.size a := fun k0_t4 v405 k0_hw14 r => k0_hw14.2 r

def k0_off35 (k0_t4 : Fin k0_t4_loop.trips) (v432 : BitVec 32) : Fin 2 → Nat :=
  let c0_i32_19 : BitVec 32 := 0#32
  let c1_i32_21 : BitVec 32 := 1#32
  let arg16 : BitVec 32 := Scf.iv c0_i32_19 c1_i32_21 k0_t4
  let c16_i32_82 : BitVec 32 := 16#32
  let v433 : BitVec 32 := Scalar.muli arg16 c16_i32_82
  let c14_i32 : BitVec 32 := 14#32
  let v434 : BitVec 32 := Scalar.addi v433 c14_i32
  let v435 : Index := Scalar.indexCast v434
  let v436 : Index := Scalar.indexCast v432
  ![v435.toNat, v436.toNat]

def k0_off36 (k0_t4 : Fin k0_t4_loop.trips) (v432 : BitVec 32) (c16_i32_83 : BitVec 32) : Fin 2 → Nat :=
  let c0_i32_19 : BitVec 32 := 0#32
  let c1_i32_21 : BitVec 32 := 1#32
  let arg16 : BitVec 32 := Scf.iv c0_i32_19 c1_i32_21 k0_t4
  let c16_i32_82 : BitVec 32 := 16#32
  let v433 : BitVec 32 := Scalar.muli arg16 c16_i32_82
  let c14_i32 : BitVec 32 := 14#32
  let v434 : BitVec 32 := Scalar.addi v433 c14_i32
  let v441 : Index := Scalar.indexCast v434
  let v440 : BitVec 32 := Scalar.addi v432 c16_i32_83
  let v442 : Index := Scalar.indexCast v440
  ![v441.toNat, v442.toNat]

def k0_chk15 (k0_t4 : Fin k0_t4_loop.trips) (v432 : BitVec 32) : Prop :=
  (∀ a, (k0_off35 k0_t4 v432) a + S1x16.size a ≤ S512x128.size a) ∧
  (∀ (r : Fin 3), ∀ a, (k0_off36 k0_t4 v432 (BitVec.ofNat 32 (16 + 16 * r.val))) a + S1x16.size a ≤ S512x128.size a)
theorem k0_off35_inb : ∀ (k0_t4 : Fin k0_t4_loop.trips) (v432 : BitVec 32) (k0_hw15 : k0_chk15 k0_t4 v432), ∀ a, (k0_off35 k0_t4 v432) a + S1x16.size a ≤ S512x128.size a := fun k0_t4 v432 k0_hw15 => k0_hw15.1
theorem k0_off36_inb : ∀ (k0_t4 : Fin k0_t4_loop.trips) (v432 : BitVec 32) (k0_hw15 : k0_chk15 k0_t4 v432), ∀ (r : Fin 3), ∀ a, (k0_off36 k0_t4 v432 (BitVec.ofNat 32 (16 + 16 * r.val))) a + S1x16.size a ≤ S512x128.size a := fun k0_t4 v432 k0_hw15 r => k0_hw15.2 r

def k0_off37 (k0_t4 : Fin k0_t4_loop.trips) (v459 : BitVec 32) : Fin 2 → Nat :=
  let c0_i32_19 : BitVec 32 := 0#32
  let c1_i32_21 : BitVec 32 := 1#32
  let arg16 : BitVec 32 := Scf.iv c0_i32_19 c1_i32_21 k0_t4
  let c16_i32_86 : BitVec 32 := 16#32
  let v460 : BitVec 32 := Scalar.muli arg16 c16_i32_86
  let c15_i32 : BitVec 32 := 15#32
  let v461 : BitVec 32 := Scalar.addi v460 c15_i32
  let v462 : Index := Scalar.indexCast v461
  let v463 : Index := Scalar.indexCast v459
  ![v462.toNat, v463.toNat]

def k0_off38 (k0_t4 : Fin k0_t4_loop.trips) (v459 : BitVec 32) (c16_i32_87 : BitVec 32) : Fin 2 → Nat :=
  let c0_i32_19 : BitVec 32 := 0#32
  let c1_i32_21 : BitVec 32 := 1#32
  let arg16 : BitVec 32 := Scf.iv c0_i32_19 c1_i32_21 k0_t4
  let c16_i32_86 : BitVec 32 := 16#32
  let v460 : BitVec 32 := Scalar.muli arg16 c16_i32_86
  let c15_i32 : BitVec 32 := 15#32
  let v461 : BitVec 32 := Scalar.addi v460 c15_i32
  let v468 : Index := Scalar.indexCast v461
  let v467 : BitVec 32 := Scalar.addi v459 c16_i32_87
  let v469 : Index := Scalar.indexCast v467
  ![v468.toNat, v469.toNat]

def k0_chk16 (k0_t4 : Fin k0_t4_loop.trips) (v459 : BitVec 32) : Prop :=
  (∀ a, (k0_off37 k0_t4 v459) a + S1x16.size a ≤ S512x128.size a) ∧
  (∀ (r : Fin 3), ∀ a, (k0_off38 k0_t4 v459 (BitVec.ofNat 32 (16 + 16 * r.val))) a + S1x16.size a ≤ S512x128.size a)
theorem k0_off37_inb : ∀ (k0_t4 : Fin k0_t4_loop.trips) (v459 : BitVec 32) (k0_hw16 : k0_chk16 k0_t4 v459), ∀ a, (k0_off37 k0_t4 v459) a + S1x16.size a ≤ S512x128.size a := fun k0_t4 v459 k0_hw16 => k0_hw16.1
theorem k0_off38_inb : ∀ (k0_t4 : Fin k0_t4_loop.trips) (v459 : BitVec 32) (k0_hw16 : k0_chk16 k0_t4 v459), ∀ (r : Fin 3), ∀ a, (k0_off38 k0_t4 v459 (BitVec.ofNat 32 (16 + 16 * r.val))) a + S1x16.size a ≤ S512x128.size a := fun k0_t4 v459 k0_hw16 r => k0_hw16.2 r

def k0_off39 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v36 : BitVec 32 := Scalar.muli v1 c128_i32
  ![v36.toNat]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "mean" => some ((802817⁻¹ : ℝ) : EReal)
  | "pad" => some ⊥
  | _ => none
-- ==== ReferenceIdeal.lean ====
abbrev S819200 : Shape := ⟨1, ![819200]⟩
abbrev S16384 : Shape := ⟨1, ![16384]⟩
abbrev S1000000x64 : Shape := ⟨2, ![1000000, 64]⟩
abbrev S256x64 : Shape := ⟨2, ![256, 64]⟩
abbrev S256 : Shape := ⟨1, ![256]⟩
abbrev S2x256 : Shape := ⟨2, ![2, 256]⟩
abbrev S2 : Shape := ⟨1, ![2]⟩
abbrev S1x16384 : Shape := ⟨2, ![1, 16384]⟩
abbrev S819200x1 : Shape := ⟨2, ![819200, 1]⟩
abbrev S819200x16384 : Shape := ⟨2, ![819200, 16384]⟩
abbrev S_ : Shape := ⟨0, ![]⟩
abbrev S1 : Shape := ⟨1, ![1]⟩
abbrev S1x1 : Shape := ⟨2, ![1, 1]⟩
abbrev S819200x64 : Shape := ⟨2, ![819200, 64]⟩
abbrev S16384x64 : Shape := ⟨2, ![16384, 64]⟩
abbrev S16384x1 : Shape := ⟨2, ![16384, 1]⟩
abbrev S64x256 : Shape := ⟨2, ![64, 256]⟩
abbrev S16384x256 : Shape := ⟨2, ![16384, 256]⟩
abbrev S1x256 : Shape := ⟨2, ![1, 256]⟩
abbrev S256x2 : Shape := ⟨2, ![256, 2]⟩
abbrev S16384x2 : Shape := ⟨2, ![16384, 2]⟩
abbrev S1x2 : Shape := ⟨2, ![1, 2]⟩

abbrev nBuf : Space → Nat
  | .hbm => 83
  | .vmem => 0
  | .smem => 0
  | _ => 0

abbrev bufTy : (tb : Table) → Fin (tcTables nBuf tb) → BufTy
  | .hbm, ⟨0, _⟩ => ⟨S819200, .i32⟩
  | .hbm, ⟨1, _⟩ => ⟨S16384, .i32⟩
  | .hbm, ⟨2, _⟩ => ⟨S1000000x64, .f32⟩
  | .hbm, ⟨3, _⟩ => ⟨S256x64, .f32⟩
  | .hbm, ⟨4, _⟩ => ⟨S256, .f32⟩
  | .hbm, ⟨5, _⟩ => ⟨S2x256, .f32⟩
  | .hbm, ⟨6, _⟩ => ⟨S2, .f32⟩
  | .hbm, ⟨7, _⟩ => ⟨S819200, .i32⟩
  | .hbm, ⟨8, _⟩ => ⟨S1x16384, .i32⟩
  | .hbm, ⟨9, _⟩ => ⟨S819200x1, .i32⟩
  | .hbm, ⟨10, _⟩ => ⟨S819200x16384, .i32⟩
  | .hbm, ⟨11, _⟩ => ⟨S819200x16384, .i32⟩
  | .hbm, ⟨12, _⟩ => ⟨S819200x16384, .i1⟩
  | .hbm, ⟨13, _⟩ => ⟨S819200x16384, .i32⟩
  | .hbm, ⟨14, _⟩ => ⟨S_, .i32⟩
  | .hbm, ⟨15, _⟩ => ⟨S819200, .i32⟩
  | .hbm, ⟨16, _⟩ => ⟨S_, .i32⟩
  | .hbm, ⟨17, _⟩ => ⟨S819200, .i32⟩
  | .hbm, ⟨18, _⟩ => ⟨S819200, .i32⟩
  | .hbm, ⟨19, _⟩ => ⟨S_, .i32⟩
  | .hbm, ⟨20, _⟩ => ⟨S819200, .i32⟩
  | .hbm, ⟨21, _⟩ => ⟨S819200, .i1⟩
  | .hbm, ⟨22, _⟩ => ⟨S_, .i32⟩
  | .hbm, ⟨23, _⟩ => ⟨S819200, .i32⟩
  | .hbm, ⟨24, _⟩ => ⟨S819200, .i32⟩
  | .hbm, ⟨25, _⟩ => ⟨S819200, .i32⟩
  | .hbm, ⟨26, _⟩ => ⟨S819200x1, .i32⟩
  | .hbm, ⟨27, _⟩ => ⟨S1, .i32⟩
  | .hbm, ⟨28, _⟩ => ⟨S_, .i32⟩
  | .hbm, ⟨29, _⟩ => ⟨S819200x1, .i32⟩
  | .hbm, ⟨30, _⟩ => ⟨S819200x1, .i1⟩
  | .hbm, ⟨31, _⟩ => ⟨S1x1, .i32⟩
  | .hbm, ⟨32, _⟩ => ⟨S819200x1, .i32⟩
  | .hbm, ⟨33, _⟩ => ⟨S819200x1, .i1⟩
  | .hbm, ⟨34, _⟩ => ⟨S819200x1, .i1⟩
  | .hbm, ⟨35, _⟩ => ⟨S_, .i1⟩
  | .hbm, ⟨36, _⟩ => ⟨S819200, .i1⟩
  | .hbm, ⟨37, _⟩ => ⟨S819200x64, .f32⟩
  | .hbm, ⟨38, _⟩ => ⟨S819200x64, .i1⟩
  | .hbm, ⟨39, _⟩ => ⟨S_, .f32⟩
  | .hbm, ⟨40, _⟩ => ⟨S819200x64, .f32⟩
  | .hbm, ⟨41, _⟩ => ⟨S819200x64, .f32⟩
  | .hbm, ⟨42, _⟩ => ⟨S_, .f32⟩
  | .hbm, ⟨43, _⟩ => ⟨S16384x64, .f32⟩
  | .hbm, ⟨44, _⟩ => ⟨S819200x1, .i32⟩
  | .hbm, ⟨45, _⟩ => ⟨S16384x64, .f32⟩
  | .hbm, ⟨46, _⟩ => ⟨S_, .f32⟩
  | .hbm, ⟨47, _⟩ => ⟨S819200, .f32⟩
  | .hbm, ⟨48, _⟩ => ⟨S_, .f32⟩
  | .hbm, ⟨49, _⟩ => ⟨S16384, .f32⟩
  | .hbm, ⟨50, _⟩ => ⟨S819200x1, .i32⟩
  | .hbm, ⟨51, _⟩ => ⟨S16384, .f32⟩
  | .hbm, ⟨52, _⟩ => ⟨S16384x1, .f32⟩
  | .hbm, ⟨53, _⟩ => ⟨S16384x64, .f32⟩
  | .hbm, ⟨54, _⟩ => ⟨S16384x64, .f32⟩
  | .hbm, ⟨55, _⟩ => ⟨S64x256, .f32⟩
  | .hbm, ⟨56, _⟩ => ⟨S16384x256, .f32⟩
  | .hbm, ⟨57, _⟩ => ⟨S1x256, .f32⟩
  | .hbm, ⟨58, _⟩ => ⟨S16384x256, .f32⟩
  | .hbm, ⟨59, _⟩ => ⟨S16384x256, .f32⟩
  | .hbm, ⟨60, _⟩ => ⟨S_, .f32⟩
  | .hbm, ⟨61, _⟩ => ⟨S16384x256, .f32⟩
  | .hbm, ⟨62, _⟩ => ⟨S16384x256, .f32⟩
  | .hbm, ⟨63, _⟩ => ⟨S256x2, .f32⟩
  | .hbm, ⟨64, _⟩ => ⟨S16384x2, .f32⟩
  | .hbm, ⟨65, _⟩ => ⟨S1x2, .f32⟩
  | .hbm, ⟨66, _⟩ => ⟨S16384x2, .f32⟩
  | .hbm, ⟨67, _⟩ => ⟨S16384x2, .f32⟩
  | .hbm, ⟨68, _⟩ => ⟨S_, .f32⟩
  | .hbm, ⟨69, _⟩ => ⟨S16384, .f32⟩
  | .hbm, ⟨70, _⟩ => ⟨S_, .f32⟩
  | .hbm, ⟨71, _⟩ => ⟨S16384, .f32⟩
  | .hbm, ⟨72, _⟩ => ⟨S16384, .f32⟩
  | .hbm, ⟨73, _⟩ => ⟨S16384x1, .f32⟩
  | .hbm, ⟨74, _⟩ => ⟨S16384x2, .f32⟩
  | .hbm, ⟨75, _⟩ => ⟨S16384x2, .f32⟩
  | .hbm, ⟨76, _⟩ => ⟨S16384x2, .f32⟩
  | .hbm, ⟨77, _⟩ => ⟨S_, .f32⟩
  | .hbm, ⟨78, _⟩ => ⟨S16384, .f32⟩
  | .hbm, ⟨79, _⟩ => ⟨S16384x1, .f32⟩
  | .hbm, ⟨80, _⟩ => ⟨S16384x1, .f32⟩
  | .hbm, ⟨81, _⟩ => ⟨S16384x2, .f32⟩
  | .hbm, ⟨82, _⟩ => ⟨S16384x2, .f32⟩
  | _, _ => ⟨S819200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v10 : Ref sig .tc := ⟨.hbm, 41, rfl⟩
abbrev main_cst : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_1 : Ref sig .tc := ⟨.hbm, 46, rfl⟩
abbrev main_v14 : Ref sig .tc := ⟨.hbm, 47, rfl⟩
abbrev main_cst_2 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_call1_cst : Ref sig .tc := ⟨.hbm, 60, rfl⟩
abbrev main_call1_v0 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_call2_cst : Ref sig .tc := ⟨.hbm, 68, rfl⟩
abbrev main_call2_v0 : Ref sig .tc := ⟨.hbm, 69, rfl⟩
abbrev main_call2_cst_0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_v6 : Ref sig .tc := ⟨.hbm, 76, rfl⟩
abbrev main_call2_cst_1 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_v32 : Ref sig .tc := ⟨.hbm, 82, rfl⟩

abbrev nD : Nat := 1
abbrev τ : Topo := Topo.v7x

variable {F : FTy → Type} [FloatOps F]
-- ==== Proof.Base.lean ====
/-
  The tile kernel's setting: the program as the launch theorem sees it, the ghost state of the certificate, the
  buffers a tile addresses, and the pure functions the tile computes (which row of the paired table a word names,
  which half of it, and the running sums).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.WritesUnit
public import Idealize.ShloMosaic.Lib.Pipeline.Value
public import proofs.«01_k».proof.Proof.Gen.KernelIdeal
public import proofs.«01_k».proof.Proof.Gen.KernelIdeal.Skeleton

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev 𝒱₀ : Variants := Variants.none
abbrev 𝒱 : Variants := 𝒱₀.lift
abbrev v₀ : 𝒱.V := Sum.inl none

/-! ## The resource algebra: the handshakes' rounds, the pipeline's rounds, the transfers' counters -/

abbrev UH : Type := URounds (GSem nD τ sig) ℕ
abbrev UP : Type := URounds (GSem nD τ sig) Unit
abbrev UU : Type := UH × UP × Counters

/-! ## The words, the rows they name and the running sums -/

/-- Index `n` of the flat list of words, wrapped to its length. -/
def ixAt (n : ℕ) : S819200.Idx := fun a => match a with
  | 0 => (⟨n % 819200, Nat.mod_lt _ (by decide)⟩ : Fin 819200) | ⟨_ + 1, h⟩ => absurd h (Nat.not_lt.2 (Nat.le_add_left _ _))

/-- The row of the paired table that word `w` names, wrapped to the table's height. -/
def rowOf (w : BitVec 32) : Fin 500000 := ⟨w.toNat / 2 % 500000, Nat.mod_lt _ (by decide)⟩

/-- An index of the paired table. -/
def tix (r : Fin 500000) (c : Fin 128) : S500000x128.Idx := fun a => match a with
  | 0 => r | 1 => c | ⟨_ + 2, h⟩ => absurd h (Nat.not_lt.2 (Nat.le_add_left _ _))

/-- Lane `l` of quarter `p` of the half of a paired row that word `w` names. -/
def colOf (w : BitVec 32) (p l : ℕ) : Fin 128 := ⟨(w.toNat % 2 * 64 + 16 * p + l) % 128, Nat.mod_lt _ (by decide)⟩

variable [FloatOps F]

/-- What word `w` contributes to quarter `p` of a running sum. -/
def contrib (tb : S500000x128.Idx → F .f32) (w : BitVec 32) (p : ℕ) : FVec F S16 .f32 :=
  fun x => tb (tix (rowOf w) (colOf w p (x 0).val))

/-- The first `n` contributions of `f` added one by one to `a`. -/
def sumN (a : FVec F S16 .f32) (f : ℕ → FVec F S16 .f32) : ℕ → FVec F S16 .f32
  | 0 => a
  | n + 1 => addf (sumN a f n) (f n)

theorem sumN_add (a : FVec F S16 .f32) (f : ℕ → FVec F S16 .f32) (m n : ℕ) :
    sumN a f (m + n) = sumN (sumN a f m) (fun k => f (m + k)) n := by
  induction n with
  | zero => rfl
  | succ n ih => show addf (sumN a f (m + n)) (f (m + n)) = addf _ _; rw [ih]

/-- Quarter `p` of the running sum over the `n` words from position `b` on. -/
def accAt (ix : S819200.Idx → BitVec 32) (tb : S500000x128.Idx → F .f32) (b p n : ℕ) : FVec F S16 .f32 :=
  sumN (k0_pay62 (F := F)) (fun k => contrib tb (ix (ixAt (b + k))) p) n

/-- The buffer of gathered rows of the 512 words from position `b` on. -/
def rowsAt (ix : S819200.Idx → BitVec 32) (tb : S500000x128.Idx → F .f32) (b : ℕ) : S512x128.Idx → F .f32 :=
  fun x => tb (tix (rowOf (ix (ixAt (b + (x 0).val)))) (x 1))

/-- The 512 words from position `b` on. -/
def wordsAt (ix : S819200.Idx → BitVec 32) (b : ℕ) : S512.Idx → BitVec 32 := fun x => ix (ixAt (b + (x 0).val))

/-- Those words, halved. -/
def halvesAt (ix : S819200.Idx → BitVec 32) (b : ℕ) : S512.Idx → BitVec 32 := fun x => wordsAt ix b x >>> 1

end Cert.Proof.Sc

end
-- ==== Proof.Tile1.lean ====
/-
  The loops of a tile: halving a chunk of words.
-/
module

public import proofs.«01_k».proof.Proof.Base

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "iV" => (Memref.whole Cert.KernelIdeal.main_arg0_scv : Memref Cert.KernelIdeal.sig Kind.scVector Space.hbm Cert.KernelIdeal.S819200 EltTy.i32)
local notation "tV" => (Memref.whole Cert.KernelIdeal.main_v0_scv : Memref Cert.KernelIdeal.sig Kind.scVector Space.hbm Cert.KernelIdeal.S500000x128 EltTy.f32)
local notation "gV" => (Memref.whole Cert.KernelIdeal.main_v1_0_scv : Memref Cert.KernelIdeal.sig Kind.scVector Space.hbm Cert.KernelIdeal.S16384x128 EltTy.f32)
local notation "pV" => (Memref.whole Cert.KernelIdeal.main_v1_1_scv : Memref Cert.KernelIdeal.sig Kind.scVector Space.hbm Cert.KernelIdeal.S4096 EltTy.f32)
local notation "aV" => (Memref.whole Cert.KernelIdeal.cc0_scratch0 : Memref Cert.KernelIdeal.sig Kind.scVector Space.vmem Cert.KernelIdeal.S512 EltTy.i32)
local notation "bV" => (Memref.whole Cert.KernelIdeal.cc0_scratch1 : Memref Cert.KernelIdeal.sig Kind.scVector Space.vmem Cert.KernelIdeal.S512 EltTy.i32)
local notation "rV" => (Memref.whole Cert.KernelIdeal.cc0_scratch2 : Memref Cert.KernelIdeal.sig Kind.scVector Space.vmem Cert.KernelIdeal.S512x128 EltTy.f32)
local notation "sV" => (Memref.whole Cert.KernelIdeal.cc0_scratch3 : Memref Cert.KernelIdeal.sig Kind.scVector Space.vmem Cert.KernelIdeal.S128 EltTy.f32)

abbrev cV (L : grid0.Coords) : Fin τ.nSC := (L 0).castLE hcore0
abbrev jV (L : grid0.Coords) : Fin τ.nSub := (L 1).castLE hsub0
/-- The thread of the tile at grid coordinates `L` of device `d`. -/
abbrev thr (d : Dev nD) (L : grid0.Coords) : Thread nD τ := V d (cV L) (jV L)

variable (d : Dev nD) (L : grid0.Coords)

/-- The first `n` words of the second list are the first list's halved. -/
def HalvedTo (w h : S512.Idx → BitVec 32) (n : ℕ) : Prop := ∀ x : S512.Idx, (x 0).val < n → h x = w x >>> 1

/-- The state of a halving loop after `k` trips: the words unchanged, the first `16 k` of them halved. -/
def halfInv (w : S512.Idx → BitVec 32) (k : ℕ) (_ : BitVec 32) : sProp 𝕄 :=
  iprop(((aV).view.loc (thr d L) ↦{fullShare} w) ∗ ∃ h, ⌜HalvedTo w h (16 * k)⌝ ∗ ((bV).view.loc (thr d L) ↦{fullShare} h))

/-- Storing a vector of halved words at position `16 k` extends the halved prefix by sixteen. -/
theorem halved_put (w h : S512.Idx → BitVec 32) (k : ℕ) {off : Fin S512.rank → ℕ} (inb : ∀ a, off a + S16.size a ≤ S512.size a)
    (ho : off = ![16 * k]) (hh : HalvedTo w h (16 * k)) (v : (Rect.unit (s := S512) off S16.size inb).shape.Idx → BitVec 32)
    (hv : ∀ x, v x = (id (View.readAt (Elt F) (aV).view (Rect.unit (s := S512) off S16.size inb).toLoadRect w x) : BitVec 32) >>> 1) :
    HalvedTo w ((bV).view.writes (Elt F) h [⟨Rect.unit (s := S512) off S16.size inb, v⟩]) (16 * (k + 1)) := by
  intro x hx
  refine (View.read_writes_cons_unit (Val := Elt F) (bV).view h inb v [] x ho).trans ?_
  split
  · rename_i hm
    rw [hv]
    show w _ >>> 1 = w x >>> 1
    congr 2
    funext a
    match a with
    | 0 =>
      apply Fin.ext
      have := hm 0
      subst ho
      simp [Rect.unitLocal] at this ⊢
      omega
  · rename_i hm
    refine hh x ?_
    by_contra hc
    refine hm fun a => ?_
    match a with
    | 0 => exact ⟨by simpa using (by omega : 16 * k ≤ (x 0).val), by simpa using (by omega : (x 0).val < 16 * k + 16)⟩

theorem pay61_apply (v : Vec F S16 .i32) (x : S16.Idx) : k0_pay61 (F := F) v x = v x >>> 1 := by
  unfold k0_pay61
  simp only [shapeCast_self]
  rfl
theorem pay63_apply (v : Vec F S16 .i32) (x : S16.Idx) : k0_pay63 (F := F) v x = v x >>> 1 := by
  unfold k0_pay63
  simp only [shapeCast_self]
  rfl

set_option maxHeartbeats 4000000 in
theorem half_step1 (w : S512.Idx → BitVec 32) (k : Fin k0_t1_loop.trips) (acc : BitVec 32) :
    halfInv (F := F) d L w k.val acc ⊢ wp frame (wpE (defs₀ (F := F)) 𝒱₀ (thr d L) none) Set.univ
      (k0_t1_body L iV (Memref.isWhole_whole _) tV (Memref.isWhole_whole _) gV (Memref.isWhole_whole _) pV (Memref.isWhole_whole _)
        aV (Memref.isWhole_whole _) bV (Memref.isWhole_whole _) rV (Memref.isWhole_whole _) sV (Memref.isWhole_whole _)
        cc0_scratch4 cc0_scoped0 cc0_scoped1 cc0_scoped2 cc0_scoped3 k acc)
      (halfInv (F := F) d L w (k.val + 1)) := by
  unfold halfInv k0_t1_body
  iintro ⟨Ha, %h, %hh, Hb⟩
  sl_exec
  sl_step
  isplitl [Ha]; · iexact Ha
  iexists _; isplitr
  swap; · iexact Hb
  ipureintro
  exact halved_put w h k.val _ (k0_off2_eq k) hh _ (fun x => pay61_apply _ x)

set_option maxHeartbeats 4000000 in
theorem half_step3 (w : S512.Idx → BitVec 32) (k : Fin k0_t3_loop.trips) (acc : BitVec 32) :
    halfInv (F := F) d L w k.val acc ⊢ wp frame (wpE (defs₀ (F := F)) 𝒱₀ (thr d L) none) Set.univ
      (k0_t3_body L iV (Memref.isWhole_whole _) tV (Memref.isWhole_whole _) gV (Memref.isWhole_whole _) pV (Memref.isWhole_whole _)
        aV (Memref.isWhole_whole _) bV (Memref.isWhole_whole _) rV (Memref.isWhole_whole _) sV (Memref.isWhole_whole _)
        cc0_scratch4 cc0_scoped0 cc0_scoped1 cc0_scoped2 cc0_scoped3 k acc)
      (halfInv (F := F) d L w (k.val + 1)) := by
  unfold halfInv k0_t3_body
  iintro ⟨Ha, %h, %hh, Hb⟩
  sl_exec
  sl_step
  isplitl [Ha]; · iexact Ha
  iexists _; isplitr
  swap; · iexact Hb
  ipureintro
  exact halved_put w h k.val _ (k0_off5_eq k) hh _ (fun x => pay63_apply _ x)

end Cert.Proof.Sc

end
-- ==== Proof.Tile4.lean ====
/-
  The summing loop of a tile: one trip adds sixteen gathered rows to the four running sums.
-/
module

public import proofs.«01_k».proof.Proof.Tile1

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "iV" => (Memref.whole Cert.KernelIdeal.main_arg0_scv : Memref Cert.KernelIdeal.sig Kind.scVector Space.hbm Cert.KernelIdeal.S819200 EltTy.i32)
local notation "tV" => (Memref.whole Cert.KernelIdeal.main_v0_scv : Memref Cert.KernelIdeal.sig Kind.scVector Space.hbm Cert.KernelIdeal.S500000x128 EltTy.f32)
local notation "gV" => (Memref.whole Cert.KernelIdeal.main_v1_0_scv : Memref Cert.KernelIdeal.sig Kind.scVector Space.hbm Cert.KernelIdeal.S16384x128 EltTy.f32)
local notation "pV" => (Memref.whole Cert.KernelIdeal.main_v1_1_scv : Memref Cert.KernelIdeal.sig Kind.scVector Space.hbm Cert.KernelIdeal.S4096 EltTy.f32)
local notation "aV" => (Memref.whole Cert.KernelIdeal.cc0_scratch0 : Memref Cert.KernelIdeal.sig Kind.scVector Space.vmem Cert.KernelIdeal.S512 EltTy.i32)
local notation "bV" => (Memref.whole Cert.KernelIdeal.cc0_scratch1 : Memref Cert.KernelIdeal.sig Kind.scVector Space.vmem Cert.KernelIdeal.S512 EltTy.i32)
local notation "rV" => (Memref.whole Cert.KernelIdeal.cc0_scratch2 : Memref Cert.KernelIdeal.sig Kind.scVector Space.vmem Cert.KernelIdeal.S512x128 EltTy.f32)
local notation "sV" => (Memref.whole Cert.KernelIdeal.cc0_scratch3 : Memref Cert.KernelIdeal.sig Kind.scVector Space.vmem Cert.KernelIdeal.S128 EltTy.f32)

variable (d : Dev nD) (L : grid0.Coords)

/-- The start column a word's parity gives is 0 or 64. -/
theorem start_cases (v : Vec F S16 .i32) (x : S16.Idx) : k0_pay7 (F := F) v x = 0#32 ∨ k0_pay7 (F := F) v x = 64#32 := by
  unfold k0_pay7
  simp only [shapeCast_self]
  show IntOp.muli (IntOp.andi (v x) 1#32) 64#32 = 0#32 ∨ IntOp.muli (IntOp.andi (v x) 1#32) 64#32 = 64#32
  generalize hq : IntOp.andi (v x) 1#32 = q
  have : q = 0#32 ∨ q = 1#32 := by
    subst hq
    show v x &&& 1#32 = 0#32 ∨ v x &&& 1#32 = 1#32
    have h : ∀ u : BitVec 32, u &&& 1#32 = 0#32 ∨ u &&& 1#32 = 1#32 := by
      intro u
      have : (u &&& 1#32).toNat = u.toNat % 2 := by simp [BitVec.toNat_and, Nat.and_one_is_mod]
      rcases Nat.mod_two_eq_zero_or_one u.toNat with h | h
      · left; apply BitVec.eq_of_toNat_eq; simp [this, h]
      · right; apply BitVec.eq_of_toNat_eq; simp [this, h]
    exact h _
  rcases this with h | h <;> subst h
  · left; decide
  · right; decide

set_option maxRecDepth 20000 in
/-- At a start column of 0 or 64 every load of a trip lies inside the buffer of gathered rows. -/
theorem checks (k : Fin k0_t4_loop.trips) (w : BitVec 32) (hw : w = 0#32 ∨ w = 64#32) :
    k0_chk1 k w ∧ k0_chk2 k w ∧ k0_chk3 k w ∧ k0_chk4 k w ∧ k0_chk5 k w ∧ k0_chk6 k w ∧ k0_chk7 k w ∧ k0_chk8 k w ∧ k0_chk9 k w ∧ k0_chk10 k w ∧ k0_chk11 k w ∧ k0_chk12 k w ∧ k0_chk13 k w ∧ k0_chk14 k w ∧ k0_chk15 k w ∧ k0_chk16 k w := by
  rcases hw with h | h <;> subst h <;> revert k <;> decide +kernel
theorem ok1 (k : Fin k0_t4_loop.trips) (w : BitVec 32) (hw : w = 0#32 ∨ w = 64#32) : k0_chk1 k w :=
  (checks k w hw).1
theorem ok2 (k : Fin k0_t4_loop.trips) (w : BitVec 32) (hw : w = 0#32 ∨ w = 64#32) : k0_chk2 k w :=
  (checks k w hw).2.1
theorem ok3 (k : Fin k0_t4_loop.trips) (w : BitVec 32) (hw : w = 0#32 ∨ w = 64#32) : k0_chk3 k w :=
  (checks k w hw).2.2.1
theorem ok4 (k : Fin k0_t4_loop.trips) (w : BitVec 32) (hw : w = 0#32 ∨ w = 64#32) : k0_chk4 k w :=
  (checks k w hw).2.2.2.1
theorem ok5 (k : Fin k0_t4_loop.trips) (w : BitVec 32) (hw : w = 0#32 ∨ w = 64#32) : k0_chk5 k w :=
  (checks k w hw).2.2.2.2.1
theorem ok6 (k : Fin k0_t4_loop.trips) (w : BitVec 32) (hw : w = 0#32 ∨ w = 64#32) : k0_chk6 k w :=
  (checks k w hw).2.2.2.2.2.1
theorem ok7 (k : Fin k0_t4_loop.trips) (w : BitVec 32) (hw : w = 0#32 ∨ w = 64#32) : k0_chk7 k w :=
  (checks k w hw).2.2.2.2.2.2.1
theorem ok8 (k : Fin k0_t4_loop.trips) (w : BitVec 32) (hw : w = 0#32 ∨ w = 64#32) : k0_chk8 k w :=
  (checks k w hw).2.2.2.2.2.2.2.1
theorem ok9 (k : Fin k0_t4_loop.trips) (w : BitVec 32) (hw : w = 0#32 ∨ w = 64#32) : k0_chk9 k w :=
  (checks k w hw).2.2.2.2.2.2.2.2.1
theorem ok10 (k : Fin k0_t4_loop.trips) (w : BitVec 32) (hw : w = 0#32 ∨ w = 64#32) : k0_chk10 k w :=
  (checks k w hw).2.2.2.2.2.2.2.2.2.1
theorem ok11 (k : Fin k0_t4_loop.trips) (w : BitVec 32) (hw : w = 0#32 ∨ w = 64#32) : k0_chk11 k w :=
  (checks k w hw).2.2.2.2.2.2.2.2.2.2.1
theorem ok12 (k : Fin k0_t4_loop.trips) (w : BitVec 32) (hw : w = 0#32 ∨ w = 64#32) : k0_chk12 k w :=
  (checks k w hw).2.2.2.2.2.2.2.2.2.2.2.1
theorem ok13 (k : Fin k0_t4_loop.trips) (w : BitVec 32) (hw : w = 0#32 ∨ w = 64#32) : k0_chk13 k w :=
  (checks k w hw).2.2.2.2.2.2.2.2.2.2.2.2.1
theorem ok14 (k : Fin k0_t4_loop.trips) (w : BitVec 32) (hw : w = 0#32 ∨ w = 64#32) : k0_chk14 k w :=
  (checks k w hw).2.2.2.2.2.2.2.2.2.2.2.2.2.1
theorem ok15 (k : Fin k0_t4_loop.trips) (w : BitVec 32) (hw : w = 0#32 ∨ w = 64#32) : k0_chk15 k w :=
  (checks k w hw).2.2.2.2.2.2.2.2.2.2.2.2.2.2.1
theorem ok16 (k : Fin k0_t4_loop.trips) (w : BitVec 32) (hw : w = 0#32 ∨ w = 64#32) : k0_chk16 k w :=
  (checks k w hw).2.2.2.2.2.2.2.2.2.2.2.2.2.2.2

/-- A start column is 64 times the parity of its word. -/
theorem start_val (v : Vec F S16 .i32) (x : S16.Idx) : (k0_pay7 (F := F) v x).toNat = (id (v x) : BitVec 32).toNat % 2 * 64 := by
  unfold k0_pay7
  simp only [shapeCast_self]
  show (IntOp.muli ((id (v x) : BitVec 32) &&& 1#32) 64#32).toNat = _
  generalize (id (v x) : BitVec 32) = u
  have h1 : (u &&& 1#32).toNat = u.toNat % 2 := by simp [BitVec.toNat_and, Nat.and_one_is_mod]
  rcases Nat.mod_two_eq_zero_or_one u.toNat with h | h
  · have : u &&& 1#32 = 0#32 := by apply BitVec.eq_of_toNat_eq; simp [h1, h]
    rw [this, h]; decide
  · have : u &&& 1#32 = 1#32 := by apply BitVec.eq_of_toNat_eq; simp [h1, h]
    rw [this, h]; decide

/-- Position `i` of a list of 512 words, wrapped to its length. -/
def wix (i : ℕ) : S512.Idx := fun a => match a with
  | 0 => (⟨i % 512, Nat.mod_lt _ (by decide)⟩ : Fin 512) | ⟨_ + 1, h⟩ => absurd h (Nat.not_lt.2 (Nat.le_add_left _ _))

/-- An index of the buffer of gathered rows. -/
def rix (i : ℕ) (c : Fin 128) : S512x128.Idx := fun a => match a with
  | 0 => (⟨i % 512, Nat.mod_lt _ (by decide)⟩ : Fin 512) | 1 => c | ⟨_ + 2, h⟩ => absurd h (Nat.not_lt.2 (Nat.le_add_left _ _))

/-- Quarter `p` of the half of row `i` of the gathered rows that word `i` names. -/
def rowPart (w : S512.Idx → BitVec 32) (g : S512x128.Idx → F .f32) (i p : ℕ) : FVec F S16 .f32 :=
  fun x => g (rix i (colOf (w (wix i)) p (x 0).val))

theorem row_off (k : Fin k0_t4_loop.trips) (J : Fin 16) :
    (Scalar.addi (Scalar.muli (Scf.iv 0#32 1#32 k.val) 16#32) (BitVec.ofNat 32 J.val)).toNat = 16 * k.val + J.val := by
  revert k J; decide +kernel

theorem trips4 (k : Fin k0_t4_loop.trips) : k.val < 32 := k.isLt

/-- A vector of sixteen loaded from a row of the gathered rows at a quarter of its half. -/
theorem load_row (w : S512.Idx → BitVec 32) (g : S512x128.Idx → F .f32) (k : Fin k0_t4_loop.trips) (J p : ℕ) (hJ : J < 16) (hp : p < 4)
    (off : Fin 2 → ℕ) (inb : ∀ a, off a + S1x16.size a ≤ S512x128.size a)
    (h0 : off 0 = 16 * k.val + J) (h1 : off 1 = (w (wix (16 * k.val + J))).toNat % 2 * 64 + 16 * p) :
    shapeCast S16 (View.readAt (Elt F) (rV).view (Rect.unit (s := S512x128) off S1x16.size inb).toLoadRect g) shapeCasts_S1x16_S16
      = rowPart w g (16 * k.val + J) p := by
  have hk := trips4 k
  funext x
  refine (shapeCast_dropUnit_apply (n := 1) ![16] _ _ x).trans ?_
  show g _ = g _
  congr 1
  have hx : (x 0).val < 16 := (x 0).isLt
  funext a
  match a with
  | 0 =>
    apply Fin.ext
    show off 0 + 1 * 0 = (16 * k.val + J) % 512
    rw [h0]; omega
  | 1 =>
    apply Fin.ext
    show off 1 + 1 * (x 0).val = ((w (wix (16 * k.val + J))).toNat % 2 * 64 + 16 * p + (x 0).val) % 128
    rw [h1]; omega

/-- The start column of word `J` of a trip, as loaded. -/
theorem start_word (w : S512.Idx → BitVec 32) (k : Fin k0_t4_loop.trips) (J : ℕ) (hJ : J < 16) (inb : ∀ a, k0_off6 k a + S16.size a ≤ S512.size a) (x : S16.Idx)
    (hx : (x 0).val = J) :
    (k0_pay7 (F := F) (View.readAt (Elt F) (aV).view (Rect.unit (s := S512) (k0_off6 k) S16.size inb).toLoadRect w) x).toNat
      = (w (wix (16 * k.val + J))).toNat % 2 * 64 := by
  have hk := trips4 k
  refine (start_val _ _).trans ?_
  show (w _).toNat % 2 * 64 = _
  congr 4
  funext a
  match a with
  | 0 =>
    apply Fin.ext
    have := congrFun (k0_off6_eq k) 0
    show k0_off6 k 0 + 1 * (x 0).val = (16 * k.val + J) % 512
    rw [this, hx]; show 16 * k.val + 1 * J = _; omega

/-- A quarter-zero load of a trip: the row's number and the start column as the program computes them. -/
theorem load_row0 (w : S512.Idx → BitVec 32) (g : S512x128.Idx → F .f32) (k : Fin k0_t4_loop.trips) (J : ℕ) (hJ : J < 16) (R : ℕ) (s : BitVec 32)
    (inb : ∀ a, (![R, s.toNat] : Fin 2 → ℕ) a + S1x16.size a ≤ S512x128.size a)
    (hR : R = 16 * k.val + J) (hs : s.toNat = (w (wix (16 * k.val + J))).toNat % 2 * 64) :
    shapeCast S16 (View.readAt (Elt F) (rV).view (Rect.unit (s := S512x128) ![R, s.toNat] S1x16.size inb).toLoadRect g) shapeCasts_S1x16_S16
      = rowPart w g (16 * k.val + J) 0 :=
  load_row w g k J 0 hJ (by decide) _ inb hR hs

/-- A later quarter's load: the start column is moved by the quarter's offset. -/
theorem load_rowc (w : S512.Idx → BitVec 32) (g : S512x128.Idx → F .f32) (k : Fin k0_t4_loop.trips) (J p : ℕ) (hJ : J < 16) (hp : p < 4) (R : ℕ) (s c : BitVec 32)
    (inb : ∀ a, (![R, (Scalar.addi s c).toNat] : Fin 2 → ℕ) a + S1x16.size a ≤ S512x128.size a)
    (hc : c.toNat = 16 * p)
    (hR : R = 16 * k.val + J) (hs : s.toNat = (w (wix (16 * k.val + J))).toNat % 2 * 64) :
    shapeCast S16 (View.readAt (Elt F) (rV).view (Rect.unit (s := S512x128) ![R, (Scalar.addi s c).toNat] S1x16.size inb).toLoadRect g) shapeCasts_S1x16_S16
      = rowPart w g (16 * k.val + J) p :=
  load_row w g k J p hJ hp _ inb hR (by
    show (s + c).toNat = _
    rw [BitVec.toNat_add, hs, hc]
    have : (w (wix (16 * k.val + J))).toNat % 2 < 2 := Nat.mod_lt _ (by decide)
    omega)

set_option sl_exec.dischHeartbeats 400000 in
set_option maxHeartbeats 8000000 in
theorem sum_step (w : S512.Idx → BitVec 32) (g : S512x128.Idx → F .f32) (k : Fin k0_t4_loop.trips)
    (a0 a1 a2 a3 : FVec F S16 .f32) :
    iprop(((aV).view.loc (thr d L) ↦{fullShare} w) ∗ ((rV).view.loc (thr d L) ↦{fullShare} g)) ⊢ wp (M := 𝕄) frame (wpE (defs₀ (F := F)) 𝒱₀ (thr d L) none) Set.univ
      (k0_t4_body L iV (Memref.isWhole_whole _) tV (Memref.isWhole_whole _) gV (Memref.isWhole_whole _) pV (Memref.isWhole_whole _)
        aV (Memref.isWhole_whole _) bV (Memref.isWhole_whole _) rV (Memref.isWhole_whole _) sV (Memref.isWhole_whole _)
        cc0_scratch4 cc0_scoped0 cc0_scoped1 cc0_scoped2 cc0_scoped3 k (a0, a1, a2, a3))
      (fun r => iprop(⌜r = (sumN a0 (fun n => rowPart w g (16 * k.val + n) 0) 16, sumN a1 (fun n => rowPart w g (16 * k.val + n) 1) 16,
          sumN a2 (fun n => rowPart w g (16 * k.val + n) 2) 16, sumN a3 (fun n => rowPart w g (16 * k.val + n) 3) 16)⌝ ∗
        ((aV).view.loc (thr d L) ↦{fullShare} w) ∗ ((rV).view.loc (thr d L) ↦{fullShare} g))) := by
  unfold k0_t4_body
  iintro ⟨Ha, Hr⟩
  simp -proj only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  sl_exec (disch := (with_reducible first | refine ok1 _ _ ?_ | refine ok2 _ _ ?_ | refine ok3 _ _ ?_ | refine ok4 _ _ ?_ | refine ok5 _ _ ?_ | refine ok6 _ _ ?_ | refine ok7 _ _ ?_ | refine ok8 _ _ ?_ | refine ok9 _ _ ?_ | refine ok10 _ _ ?_ | refine ok11 _ _ ?_ | refine ok12 _ _ ?_ | refine ok13 _ _ ?_ | refine ok14 _ _ ?_ | refine ok15 _ _ ?_ | refine ok16 _ _ ?_) <;> exact start_cases (F := F) _ _)
  sl_step
  isplitr
  · ipureintro
    sl_unfold_run_names
    refine Prod.ext ?_ (Prod.ext ?_ (Prod.ext ?_ ?_)) <;> dsimp only <;> simp only [k0_pay1, k0_pay2, k0_pay3, k0_pay4, k0_pay5, k0_pay6, k0_pay9, k0_pay10, k0_pay11, k0_pay13, k0_pay15, k0_pay16, k0_pay17, k0_pay18, k0_pay21, k0_pay22, k0_pay23, k0_pay24, k0_pay26, k0_pay28, k0_pay29, k0_pay30, k0_pay32, k0_pay33, k0_pay35, k0_pay36, k0_pay38, k0_pay39, k0_pay40, k0_pay42, k0_pay45, k0_pay46, k0_pay47, k0_pay49, k0_pay51, k0_pay52, k0_pay53, k0_pay54, k0_pay57, k0_pay58, k0_pay59, k0_pay60, k0_pay64, k0_pay65, sumN]
    · repeat' (refine congrArg₂ addf ?_ ?_)
      · rfl
      all_goals refine load_row0 w g k _ (by decide) _ _ _ (row_off k ⟨_, by decide⟩) (start_word w k _ (by decide) _ _ rfl)
    · repeat' (refine congrArg₂ addf ?_ ?_)
      · rfl
      all_goals refine load_rowc w g k _ 1 (by decide) (by decide) _ _ 16#32 _ rfl (row_off k ⟨_, by decide⟩) (start_word w k _ (by decide) _ _ rfl)
    · repeat' (refine congrArg₂ addf ?_ ?_)
      · rfl
      all_goals refine load_rowc w g k _ 2 (by decide) (by decide) _ _ 32#32 _ rfl (row_off k ⟨_, by decide⟩) (start_word w k _ (by decide) _ _ rfl)
    · repeat' (refine congrArg₂ addf ?_ ?_)
      · rfl
      all_goals refine load_rowc w g k _ 3 (by decide) (by decide) _ _ 48#32 _ rfl (row_off k ⟨_, by decide⟩) (start_word w k _ (by decide) _ _ rfl)
  isplitl [Ha]
  · iexact Ha
  · iexact Hr

end Cert.Proof.Sc

end
-- ==== Proof.Tile2.lean ====
/-
  A tile's indirect gather: the rows the halved words name.
-/
module

public import proofs.«01_k».proof.Proof.Tile4

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "iV" => (Memref.whole Cert.KernelIdeal.main_arg0_scv : Memref Cert.KernelIdeal.sig Kind.scVector Space.hbm Cert.KernelIdeal.S819200 EltTy.i32)
local notation "tV" => (Memref.whole Cert.KernelIdeal.main_v0_scv : Memref Cert.KernelIdeal.sig Kind.scVector Space.hbm Cert.KernelIdeal.S500000x128 EltTy.f32)
local notation "gV" => (Memref.whole Cert.KernelIdeal.main_v1_0_scv : Memref Cert.KernelIdeal.sig Kind.scVector Space.hbm Cert.KernelIdeal.S16384x128 EltTy.f32)
local notation "pV" => (Memref.whole Cert.KernelIdeal.main_v1_1_scv : Memref Cert.KernelIdeal.sig Kind.scVector Space.hbm Cert.KernelIdeal.S4096 EltTy.f32)
local notation "aV" => (Memref.whole Cert.KernelIdeal.cc0_scratch0 : Memref Cert.KernelIdeal.sig Kind.scVector Space.vmem Cert.KernelIdeal.S512 EltTy.i32)
local notation "bV" => (Memref.whole Cert.KernelIdeal.cc0_scratch1 : Memref Cert.KernelIdeal.sig Kind.scVector Space.vmem Cert.KernelIdeal.S512 EltTy.i32)
local notation "rV" => (Memref.whole Cert.KernelIdeal.cc0_scratch2 : Memref Cert.KernelIdeal.sig Kind.scVector Space.vmem Cert.KernelIdeal.S512x128 EltTy.f32)
local notation "sV" => (Memref.whole Cert.KernelIdeal.cc0_scratch3 : Memref Cert.KernelIdeal.sig Kind.scVector Space.vmem Cert.KernelIdeal.S128 EltTy.f32)

variable (d : Dev nD) (L : grid0.Coords)

/-- The array the gathers read: all of the paired table. -/
abbrev tAllK : Memref sig .scVector .hbm S500000x128 .f32 :=
  (tV).slice (Rect.unit (s := S500000x128) ![0, 0] S500000x128.size inb_S500000x128_S500000x128_0_0) (fun _ => rfl)

/-- The rows of the paired table that a list of halved words names. -/
def gathered (tb : S500000x128.Idx → F .f32) (h : S512.Idx → BitVec 32) : S512x128.Idx → F .f32 :=
  fun x => tb (tix ⟨(h (wix (x 0).val)).toNat % 500000, Nat.mod_lt _ (by decide)⟩ (x 1))

theorem gather_credit : ∀ h : S500000x128.Gathers 0 S512x128,
    ∑ j, ((rV).slice (S512x128.rowRect h.axis' j) (S512x128.stride_rowRect h.axis' j)).view.dmaCredit = (rV).view.dmaCredit := by
  decide +kernel

/-- What the stream delivers is the rows the list names. -/
theorem gather_payload (tb : S500000x128.Idx → F .f32) (h : S512.Idx → BitVec 32)
    (hin : ∀ x, ((bV).view.read (Elt F) h x).toNat < S500000x128.size gathers_S500000x128_S512x128.axis) :
    SparseCore.gatherPayload gathers_S500000x128_S512x128 ((tAllK).view.read (Elt F) tb) (SparseCore.rows ((bV).view.read (Elt F) h) rfl hin)
      = gathered tb h := by
  funext x
  show tb ((tAllK).view.emb _) = tb (tix _ _)
  congr 1
  funext a
  match a with
  | 0 =>
    apply Fin.ext
    have h1 := congrArg Fin.val (Shape.Gathers.idx_axis gathers_S500000x128_S512x128
      (SparseCore.rows ((bV).view.read (Elt F) h) rfl hin) x)
    show 0 + 1 * (gathers_S500000x128_S512x128.idx (SparseCore.rows ((bV).view.read (Elt F) h) rfl hin) x 0).val = _
    rw [Nat.zero_add, Nat.one_mul]
    refine h1.trans ?_
    have h2 : S512.rowMajor.symm (Fin.cast rfl (x 0)) = wix (x 0).val := by
      rw [Equiv.symm_apply_eq]
      apply Fin.ext
      refine Eq.trans ?_ (Shape.rowMajor_val_one _).symm
      show (x 0).val = (x 0).val % 512
      exact (Nat.mod_eq_of_lt (x 0).isLt).symm
    have h3 : (h (wix (x 0).val)).toNat < 500000 := hin (wix (x 0).val)
    show (h (S512.rowMajor.symm (Fin.cast rfl (x 0)))).toNat = (h (wix (x 0).val)).toNat % 500000
    rw [h2, Nat.mod_eq_of_lt h3]
  | 1 =>
    apply Fin.ext
    have h1 := Shape.Gathers.idx_of_ne gathers_S500000x128_S512x128
      (SparseCore.rows ((bV).view.read (Elt F) h) rfl hin) x 1 (by decide)
    show 0 + 1 * (gathers_S500000x128_S512x128.idx (SparseCore.rows ((bV).view.read (Elt F) h) rfl hin) x 1).val = _
    rw [Nat.zero_add, Nat.one_mul]
    exact h1

set_option maxHeartbeats 4000000 in
/-- The indirect gather and its wait: the buffer of rows holds the rows the list names, everything else is unchanged. -/
theorem gather_rows (q : PosShare TreeShare) (tb : S500000x128.Idx → F .f32) (h : S512.Idx → BitVec 32) (hh : ∀ x, (h x).toNat < 500000)
    (fr : S512x128.Idx → F .f32) (O : CellTallies nD τ sig (HIx 1)) (W : Waits sig (HIx 1)) {α : Type}
    (k : PUnit → Prog (TpuEff nD τ sig (Elt F) Λ₀ (thr d L).2) α) (Q : α → sProp 𝕄) :
    iprop(Transfers.MayWaits (thr d L) (none : HIx 1) O ∗ ((tV).view.loc (thr d L) ↦{q} tb) ∗ ((bV).view.loc (thr d L) ↦{fullShare} h)
        ∗ ((rV).view.loc (thr d L) ↦{fullShare} fr) ∗ semVal (thr d L, SemLoc.dma cc0_scratch4.sem) 0 ∗ owes (thr d L) O W)
      ⊢ iprop((iprop(Transfers.MayWaits (thr d L) (none : HIx 1) O ∗ ((tV).view.loc (thr d L) ↦{q} tb) ∗ ((bV).view.loc (thr d L) ↦{fullShare} h)
          ∗ ((rV).view.loc (thr d L) ↦{fullShare} gathered tb h) ∗ semVal (thr d L, SemLoc.dma cc0_scratch4.sem) 0
          ∗ owes (thr d L) O (insert (SemLoc.dma cc0_scratch4.sem, none) W)) -∗ wp (M := 𝕄) frame (wpE (defs₀ (F := F)) 𝒱₀ (thr d L) none) Set.univ (k ⟨⟩) Q)
        -∗ wp frame (wpE (defs₀ (F := F)) 𝒱₀ (thr d L) none) Set.univ
          (SparseCore.enqueueIndirectGather rfl tAllK rV gathers_S500000x128_S512x128 bV rfl cc0_scratch4.sem (View.wordExact_bits rfl) rfl (Or.inl rfl)
            >>= fun _ => SparseCore.waitIndirectGather cc0_scratch4.sem tAllK rV (View.wordExact_bits rfl) (Memref.isWhole_whole _).wordExact >>= k) Q) := by
  iintro ⟨#Hmw, Ht, Hb, Hr, Hsem, HO⟩ Hk
  have hsp := pointsTo_split_subset (nD := nD) (τ := τ) (sig := sig) (Ix := HIx 1) (Val := Elt F) (Name := ℕ) (U := UU) (Lvl := ℕ) (ℓ := (tV).view.loc (thr d L)) (q := q) (f := tb) (S := Finset.univ)
    (Finset.subset_univ (tAllK).view.set)
  ihave Hts := hsp.1 $$ Ht
  icases Hts with ⟨Hts, Htr⟩
  have hrs : (rV).view.set = Finset.univ := View.set_whole _
  have hbs : (bV).view.set = Finset.univ := View.set_whole _
  ihave Hr' := (Entails.of_eq (show ((rV).view.loc (thr d L) ↦{fullShare} fr : sProp 𝕄)
      = (rV).view.loc (thr d L) ↦[(rV).view.set]{fullShare} fr by rw [hrs])) $$ Hr
  ihave Hb' := (Entails.of_eq (show ((bV).view.loc (thr d L) ↦{fullShare} h : sProp 𝕄)
      = (bV).view.loc (thr d L) ↦[(bV).view.set]{fullShare} h by rw [hbs])) $$ Hb
  have hin : ∀ x, ((bV).view.read (Elt F) h x).toNat < S500000x128.size gathers_S500000x128_S512x128.axis := fun x => hh x
  iapply (SparseCore.wp_indirectGatherLocal countersEmb 𝒱₀ (thr d L) none (hg := gathers_S500000x128_S512x128) (none : HIx 1)
      (rV).view.dmaCredit (gather_credit _) (by decide) hin) $$ [Hts Hr' Hb' Hsem]
  · isplitl [Hts]; · iexact Hts
    isplitl [Hr']; · iexact Hr'
    isplitl [Hb']; · iexact Hb'
    iexact Hsem
  iintro Hfl
  iapply (Transfers.wp_waitLocalO countersEmb 𝒱₀ (thr d L) none (none : HIx 1) (rfl : (rV).view.dmaCredit = _)) $$ [Hfl HO Hmw]
  · isplitl [Hfl]; · iexact Hfl
    isplitl [HO]; · iexact HO
    iapply (Transfers.MayWaits.elim (SemLoc.dma cc0_scratch4.sem)) $$ Hmw
  iintro ⟨⟨Hr, Hts, Hb⟩, Hsem, HO⟩
  ihave Ht := hsp.2 $$ [Hts Htr]; · isplitl [Hts] <;> iassumption
  iapply Hk
  isplitr; · iexact Hmw
  isplitl [Ht]; · iexact Ht
  isplitl [Hb]; · iapply (Entails.of_eq (show ((bV).view.loc (thr d L) ↦[(bV).view.set]{fullShare} h : sProp 𝕄) = (bV).view.loc (thr d L) ↦{fullShare} h by rw [hbs])); iexact Hb
  isplitl [Hr]
  · iapply (Entails.of_eq (show ((rV).view.loc (thr d L) ↦[(rV).view.set]{fullShare}
      (rV).view.write (Elt F) fr (SparseCore.gatherPayload gathers_S500000x128_S512x128 ((tAllK).view.read (Elt F) tb) (SparseCore.rows ((bV).view.read (Elt F) h) rfl hin)) Finset.univ : sProp 𝕄)
      = (rV).view.loc (thr d L) ↦{fullShare} gathered tb h by rw [hrs, View.write_whole_univ, gather_payload]))
    iexact Hr
  isplitl [Hsem]; · iexact Hsem
  iexact HO

end Cert.Proof.Sc

end
-- ==== Proof.Tile3.lean ====
/-
  One chunk of a tile's tail: 512 words fetched, halved, their rows gathered and added to the four running sums.
-/
module

public import proofs.«01_k».proof.Proof.Tile2

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "iV" => (Memref.whole Cert.KernelIdeal.main_arg0_scv : Memref Cert.KernelIdeal.sig Kind.scVector Space.hbm Cert.KernelIdeal.S819200 EltTy.i32)
local notation "tV" => (Memref.whole Cert.KernelIdeal.main_v0_scv : Memref Cert.KernelIdeal.sig Kind.scVector Space.hbm Cert.KernelIdeal.S500000x128 EltTy.f32)
local notation "gV" => (Memref.whole Cert.KernelIdeal.main_v1_0_scv : Memref Cert.KernelIdeal.sig Kind.scVector Space.hbm Cert.KernelIdeal.S16384x128 EltTy.f32)
local notation "pV" => (Memref.whole Cert.KernelIdeal.main_v1_1_scv : Memref Cert.KernelIdeal.sig Kind.scVector Space.hbm Cert.KernelIdeal.S4096 EltTy.f32)
local notation "aV" => (Memref.whole Cert.KernelIdeal.cc0_scratch0 : Memref Cert.KernelIdeal.sig Kind.scVector Space.vmem Cert.KernelIdeal.S512 EltTy.i32)
local notation "bV" => (Memref.whole Cert.KernelIdeal.cc0_scratch1 : Memref Cert.KernelIdeal.sig Kind.scVector Space.vmem Cert.KernelIdeal.S512 EltTy.i32)
local notation "rV" => (Memref.whole Cert.KernelIdeal.cc0_scratch2 : Memref Cert.KernelIdeal.sig Kind.scVector Space.vmem Cert.KernelIdeal.S512x128 EltTy.f32)
local notation "sV" => (Memref.whole Cert.KernelIdeal.cc0_scratch3 : Memref Cert.KernelIdeal.sig Kind.scVector Space.vmem Cert.KernelIdeal.S128 EltTy.f32)

variable (d : Dev nD) (L : grid0.Coords)

/-- Where the tail of tile `L` starts in the list of words. -/
def base (L : grid0.Coords) : ℕ := 16384 + 25088 * (2 * (L 1).val + (L 0).val)

theorem wid_lt (L : grid0.Coords) : 2 * (L 1).val + (L 0).val < 32 := by
  have h0 : (L 0).val < 2 := (L 0).isLt
  have h1 : (L 1).val < 16 := (L 1).isLt
  omega

/-- A slice of 512 words read at position `b`. -/
theorem read_words (ix : S819200.Idx → BitVec 32) (b : ℕ) (hb : b + 512 ≤ 819200) {off : Fin 1 → ℕ} (ho : off = ![b])
    (inb : ∀ a, off a + S512.size a ≤ S819200.size a) (h1 : ∀ a, (Rect.unit (s := S819200) off S512.size inb).stride a = 1) :
    ((iV).slice (Rect.unit (s := S819200) off S512.size inb) h1).view.read (Elt F) ix = wordsAt ix b := by
  subst ho
  funext x
  show ix _ = ix _
  congr 1
  funext a
  have hx : (x 0).val < 512 := (x 0).isLt
  match a with
  | 0 =>
    apply Fin.ext
    show b + 1 * (x 0).val = (b + (x 0).val) % 819200
    omega

/-- A list halved to its end is the words halved. -/
theorem halved_all (w h : S512.Idx → BitVec 32) (hh : HalvedTo w h (16 * 32)) : h = fun x => w x >>> 1 :=
  funext fun x => hh x (x 0).isLt

/-- The rows the halved words of a chunk name are the chunk's rows. -/
theorem gathered_halves (ix : S819200.Idx → BitVec 32) (tb : S500000x128.Idx → F .f32) (b : ℕ) :
    gathered tb (fun x => wordsAt ix b x >>> 1) = rowsAt ix tb b := by
  funext x
  have hx : (x 0).val < 512 := (x 0).isLt
  show tb (tix _ _) = tb (tix _ _)
  congr 2
  apply Fin.ext
  show (ix (ixAt (b + (x 0).val % 512)) >>> 1).toNat % 500000 = (ix (ixAt (b + (x 0).val))).toNat / 2 % 500000
  rw [Nat.mod_eq_of_lt hx, BitVec.toNat_ushiftRight, Nat.shiftRight_eq_div_pow]

/-- A word below a million, halved, names a row of the paired table. -/
theorem halves_lt (ix : S819200.Idx → BitVec 32) (b : ℕ) (hix : ∀ x, (ix x).toNat < 1000000) (x : S512.Idx) :
    (wordsAt ix b x >>> 1).toNat < 500000 := by
  have := hix (ixAt (b + (x 0).val))
  rw [BitVec.toNat_ushiftRight, Nat.shiftRight_eq_div_pow]
  show (ix (ixAt (b + (x 0).val))).toNat / 2 < 500000
  omega

/-- A quarter of a row of a chunk's gathered rows is its word's contribution. -/
theorem rowPart_rows (ix : S819200.Idx → BitVec 32) (tb : S500000x128.Idx → F .f32) (b i p : ℕ) (hi : i < 512) :
    rowPart (wordsAt ix b) (rowsAt ix tb b) i p = contrib tb (ix (ixAt (b + i))) p := by
  funext x
  show tb (tix (rowOf (ix (ixAt (b + i % 512)))) (colOf (ix (ixAt (b + i % 512))) p _)) = _
  rw [Nat.mod_eq_of_lt hi]; rfl

/-- The four running sums of the `n` words from position `b` on. -/
def accs (ix : S819200.Idx → BitVec 32) (tb : S500000x128.Idx → F .f32) (b n : ℕ) : FVec F S16 .f32 × FVec F S16 .f32 × FVec F S16 .f32 × FVec F S16 .f32 :=
  (accAt ix tb b 0 n, accAt ix tb b 1 n, accAt ix tb b 2 n, accAt ix tb b 3 n)

theorem sumN_congr (a : FVec F S16 .f32) (f g : ℕ → FVec F S16 .f32) (m : ℕ) (h : ∀ j, j < m → f j = g j) : sumN a f m = sumN a g m := by
  induction m with
  | zero => rfl
  | succ m ih =>
    show addf (sumN a f m) (f m) = addf (sumN a g m) (g m)
    rw [ih fun j hj => h j (Nat.lt_succ_of_lt hj), h m (Nat.lt_succ_self m)]

/-- Sixteen more words: a trip of the summing loop carries the sums on. -/
theorem acc_step (ix : S819200.Idx → BitVec 32) (tb : S500000x128.Idx → F .f32) (b0 n p k : ℕ) (hk : k < 32) :
    sumN (accAt ix tb b0 p (n + 16 * k)) (fun j => rowPart (wordsAt ix (b0 + n)) (rowsAt ix tb (b0 + n)) (16 * k + j) p) 16 = accAt ix tb b0 p (n + 16 * (k + 1)) := by
  have h : n + 16 * (k + 1) = (n + 16 * k) + 16 := by omega
  rw [h]
  unfold accAt
  rw [sumN_add (k0_pay62 (F := F)) (fun k => contrib tb (ix (ixAt (b0 + k))) p) (n + 16 * k) 16]
  generalize hs : sumN (k0_pay62 (F := F)) (fun k => contrib tb (ix (ixAt (b0 + k))) p) (n + 16 * k) = s0
  refine sumN_congr s0 (fun j => rowPart (wordsAt ix (b0 + n)) (rowsAt ix tb (b0 + n)) (16 * k + j) p) (fun j => contrib tb (ix (ixAt (b0 + (n + 16 * k + j)))) p) 16 fun j hj => ?_
  show rowPart (wordsAt ix (b0 + n)) (rowsAt ix tb (b0 + n)) (16 * k + j) p = contrib tb (ix (ixAt (b0 + (n + 16 * k + j)))) p
  rw [rowPart_rows ix tb (b0 + n) (16 * k + j) p (by omega)]
  have e : b0 + n + (16 * k + j) = b0 + (n + 16 * k + j) := by omega
  rw [e]

/-- The state of the summing loop of a chunk at position `b` after `k` trips. -/
def sumInv (ix : S819200.Idx → BitVec 32) (tb : S500000x128.Idx → F .f32) (b0 n : ℕ) (k : ℕ) (r : FVec F S16 .f32 × FVec F S16 .f32 × FVec F S16 .f32 × FVec F S16 .f32) : sProp 𝕄 :=
  iprop(⌜r = accs ix tb b0 (n + 16 * k)⌝ ∗ ((aV).view.loc (thr d L) ↦{fullShare} wordsAt ix (b0 + n)) ∗ ((rV).view.loc (thr d L) ↦{fullShare} rowsAt ix tb (b0 + n)))

theorem sum_trip (ix : S819200.Idx → BitVec 32) (tb : S500000x128.Idx → F .f32) (b0 n : ℕ) (k : Fin k0_t4_loop.trips)
    (r : FVec F S16 .f32 × FVec F S16 .f32 × FVec F S16 .f32 × FVec F S16 .f32) :
    sumInv (F := F) d L ix tb b0 n k.val r ⊢ wp frame (wpE (defs₀ (F := F)) 𝒱₀ (thr d L) none) Set.univ
      (k0_t4_body L iV (Memref.isWhole_whole _) tV (Memref.isWhole_whole _) gV (Memref.isWhole_whole _) pV (Memref.isWhole_whole _)
        aV (Memref.isWhole_whole _) bV (Memref.isWhole_whole _) rV (Memref.isWhole_whole _) sV (Memref.isWhole_whole _)
        cc0_scratch4 cc0_scoped0 cc0_scoped1 cc0_scoped2 cc0_scoped3 k r)
      (sumInv (F := F) d L ix tb b0 n (k.val + 1)) := by
  unfold sumInv
  iintro ⟨%hr, Ha, Hr⟩
  subst hr
  have hs := sum_step (F := F) d L (wordsAt ix (b0 + n)) (rowsAt ix tb (b0 + n)) k (accAt ix tb b0 0 (n + 16 * k.val)) (accAt ix tb b0 1 (n + 16 * k.val)) (accAt ix tb b0 2 (n + 16 * k.val)) (accAt ix tb b0 3 (n + 16 * k.val))
  rw [acc_step ix tb b0 n _ k.val (trips4 k), acc_step ix tb b0 n _ k.val (trips4 k), acc_step ix tb b0 n _ k.val (trips4 k), acc_step ix tb b0 n _ k.val (trips4 k)] at hs
  iapply hs
  isplitl [Ha]; · iexact Ha
  iexact Hr

/-- What a tile holds between the chunks of its tail, `c` of them done: the four sums over the words so far. -/
def chunkInv (qi q : PosShare TreeShare) (ix : S819200.Idx → BitVec 32) (tb : S500000x128.Idx → F .f32) (O : CellTallies nD τ sig (HIx 1)) (W : Waits sig (HIx 1))
    (c : ℕ) (r : FVec F S16 .f32 × FVec F S16 .f32 × FVec F S16 .f32 × FVec F S16 .f32) : sProp 𝕄 :=
  iprop(⌜r = accs ix tb (base L) (512 * c)⌝ ∗ Transfers.MayWaits (thr d L) (none : HIx 1) O
    ∗ ((iV).view.loc (thr d L) ↦{qi} ix) ∗ ((tV).view.loc (thr d L) ↦{q} tb)
    ∗ (∃ w, (aV).view.loc (thr d L) ↦{fullShare} w) ∗ (∃ h, (bV).view.loc (thr d L) ↦{fullShare} h) ∗ (∃ g, (rV).view.loc (thr d L) ↦{fullShare} g)
    ∗ semVal (thr d L, SemLoc.dma cc0_scoped2.sem) 0 ∗ semVal (thr d L, SemLoc.dma cc0_scratch4.sem) 0
    ∗ ∃ W', ⌜∀ p ∈ W', p ∈ W ∨ p.2 = none⌝ ∗ owes (thr d L) O W')

set_option maxHeartbeats 8000000 in
theorem chunk_step (qi q : PosShare TreeShare) (ix : S819200.Idx → BitVec 32) (tb : S500000x128.Idx → F .f32) (hix : ∀ x, (ix x).toNat < 1000000)
    (O : CellTallies nD τ sig (HIx 1)) (W : Waits sig (HIx 1)) (k : Fin k0_t2_loop.trips) (r : FVec F S16 .f32 × FVec F S16 .f32 × FVec F S16 .f32 × FVec F S16 .f32) :
    chunkInv (F := F) d L qi q ix tb O W k.val r ⊢ wp frame (wpE (defs₀ (F := F)) 𝒱₀ (thr d L) none) Set.univ
      (k0_t2_body L iV (Memref.isWhole_whole _) tV (Memref.isWhole_whole _) gV (Memref.isWhole_whole _) pV (Memref.isWhole_whole _)
        aV (Memref.isWhole_whole _) bV (Memref.isWhole_whole _) rV (Memref.isWhole_whole _) sV (Memref.isWhole_whole _)
        cc0_scratch4 cc0_scoped0 cc0_scoped1 cc0_scoped2 cc0_scoped3 k r)
      (chunkInv (F := F) d L qi q ix tb O W (k.val + 1)) := by
  have hk : k.val < 49 := k.isLt
  have hw := wid_lt L
  obtain ⟨r0, r1, r2, r3⟩ := r
  unfold chunkInv k0_t2_body
  iintro ⟨%hr, #Hmw, Hi, Ht, ⟨%w, Ha⟩, ⟨%h, Hb⟩, ⟨%g, Hr⟩, Hs2, Hs4, %W', %hW', HO⟩
  sl_exec (disch := exact View.amount_pos _ _ (show 0 < S512.numel by decide))
  have hread : chunk_step.sl.dma0 (F := F) L ix k = wordsAt ix (base L + 512 * k.val) :=
    read_words ix (base L + 512 * k.val) (by unfold base; omega) ((k0_off4_eq L k).trans (by unfold base; congr 1; omega)) _ _
  rw [View.write_whole_univ, hread]
  sl_for (halfInv (F := F) d L (wordsAt ix (base L + 512 * k.val))) $$ [Ha Hb]
  case region =>
    intro k' acc
    exact half_step3 (F := F) d L _ k' acc
  · unfold halfInv
    isplitl [Ha]; · iexact Ha
    iexists _; isplitr
    swap; · iexact Hb
    ipureintro; intro x hx; omega
  iintro %_ HI
  unfold halfInv
  icases HI with ⟨Ha, %h', %hh', Hb⟩
  have hh2 := halved_all _ _ hh'
  subst hh2
  iapply (gather_rows (F := F) d L q tb _ (halves_lt ix _ hix) g O) $$ [Ht Hb Hr Hs4 HO]
  · isplitr; · iexact Hmw
    isplitl [Ht]; · iexact Ht
    isplitl [Hb]; · iexact Hb
    isplitl [Hr]; · iexact Hr
    isplitl [Hs4]; · iexact Hs4
    iexact HO
  iintro ⟨-, Ht, Hb, Hr, Hs4, HO⟩
  rw [gathered_halves]
  have hr0 : (r0, r1, r2, r3) = accs ix tb (base L) (512 * k.val + 16 * 0) := hr
  rw [hr0]
  sl_for (sumInv (F := F) d L ix tb (base L) (512 * k.val)) $$ [Ha Hr]
  case region =>
    intro k' r'
    exact sum_trip (F := F) d L ix tb (base L) (512 * k.val) k' r'
  · unfold sumInv
    isplitr; · ipureintro; rfl
    isplitl [Ha]; · iexact Ha
    iexact Hr
  iintro %r' HI
  unfold sumInv
  icases HI with ⟨%hr', Ha, Hr⟩
  obtain ⟨r0', r1', r2', r3'⟩ := r'
  sl_exec
  sl_step
  isplitr
  · ipureintro; exact hr'
  isplitr; · iexact Hmw
  isplitl [Hi]; · iexact Hi
  isplitl [Ht]; · iexact Ht
  isplitl [Ha]; · iexists _; iexact Ha
  isplitl [Hb]; · iexists _; iexact Hb
  isplitl [Hr]; · iexists _; iexact Hr
  isplitl [Hs2]; · iexact Hs2
  isplitl [Hs4]; · iexact Hs4
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Cert.Proof.Sc

end
-- ==== Proof.Tile.lean ====
/-
  A tile's whole task: the rows of its own 512 words written out, the sums of its 25088 tail words written out.
-/
module

public import proofs.«01_k».proof.Proof.Tile3

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "iV" => (Memref.whole Cert.KernelIdeal.main_arg0_scv : Memref Cert.KernelIdeal.sig Kind.scVector Space.hbm Cert.KernelIdeal.S819200 EltTy.i32)
local notation "tV" => (Memref.whole Cert.KernelIdeal.main_v0_scv : Memref Cert.KernelIdeal.sig Kind.scVector Space.hbm Cert.KernelIdeal.S500000x128 EltTy.f32)
local notation "gV" => (Memref.whole Cert.KernelIdeal.main_v1_0_scv : Memref Cert.KernelIdeal.sig Kind.scVector Space.hbm Cert.KernelIdeal.S16384x128 EltTy.f32)
local notation "pV" => (Memref.whole Cert.KernelIdeal.main_v1_1_scv : Memref Cert.KernelIdeal.sig Kind.scVector Space.hbm Cert.KernelIdeal.S4096 EltTy.f32)
local notation "aV" => (Memref.whole Cert.KernelIdeal.cc0_scratch0 : Memref Cert.KernelIdeal.sig Kind.scVector Space.vmem Cert.KernelIdeal.S512 EltTy.i32)
local notation "bV" => (Memref.whole Cert.KernelIdeal.cc0_scratch1 : Memref Cert.KernelIdeal.sig Kind.scVector Space.vmem Cert.KernelIdeal.S512 EltTy.i32)
local notation "rV" => (Memref.whole Cert.KernelIdeal.cc0_scratch2 : Memref Cert.KernelIdeal.sig Kind.scVector Space.vmem Cert.KernelIdeal.S512x128 EltTy.f32)
local notation "sV" => (Memref.whole Cert.KernelIdeal.cc0_scratch3 : Memref Cert.KernelIdeal.sig Kind.scVector Space.vmem Cert.KernelIdeal.S128 EltTy.f32)

variable (d : Dev nD) (L : grid0.Coords)

/-- The gathered rows of the first 16384 words. -/
def rowsOut (ix : S819200.Idx → BitVec 32) (tb : S500000x128.Idx → F .f32) : S16384x128.Idx → F .f32 :=
  fun x => tb (tix (rowOf (ix (ixAt (x 0).val))) (x 1))

/-- Lane `l` of a vector of sixteen. -/
def lane (l : ℕ) : S16.Idx := fun a => match a with
  | 0 => (⟨l % 16, Nat.mod_lt _ (by decide)⟩ : Fin 16) | ⟨_ + 1, h⟩ => absurd h (Nat.not_lt.2 (Nat.le_add_left _ _))

/-- What tile number `t` writes at position `l` of its block of 128: four sums of sixteen lanes, then zeros. -/
def blockAt (ix : S819200.Idx → BitVec 32) (tb : S500000x128.Idx → F .f32) (t l : ℕ) : F .f32 :=
  if l < 64 then accAt ix tb (16384 + 25088 * t) (l / 16) 25088 (lane l) else k0_pay62 (F := F) (lane l)

/-- All the tiles' blocks of sums. -/
def sumsOut (ix : S819200.Idx → BitVec 32) (tb : S500000x128.Idx → F .f32) : S4096.Idx → F .f32 :=
  fun x => blockAt ix tb ((x 0).val / 128) ((x 0).val % 128)

/-- The tile's block of the array of rows. -/
abbrev gRow (L : grid0.Coords) : Memref sig .scVector .hbm S512x128 .f32 :=
  (gV).slice (Rect.unit (s := S16384x128) (k0_off3 L) S512x128.size (k0_off3_inb L)) (fun _ => rfl)
/-- The tile's block of the array of sums. -/
abbrev pRow (L : grid0.Coords) : Memref sig .scVector .hbm S128 .f32 :=
  (pV).slice (Rect.unit (s := S4096) (k0_off39 L) S128.size (k0_off39_inb L)) (fun _ => rfl)

/-- Contents that a view reads the same agree on the view's elements. -/
theorem eq_on_of_read {κ : Kind} {sp : Space} {s : Shape} {e : EltTy} (v : View sig κ sp s e) (f g : v.ty.Contents (Elt F))
    (h : v.read (Elt F) f = v.read (Elt F) g) : ∀ i ∈ v.set, f i = g i := by
  intro i hi
  obtain ⟨x, -, rfl⟩ := Finset.mem_map.mp hi
  have hx := congrFun h x
  rw [View.read_apply, View.read_apply] at hx
  exact (cast_bijective (congrArg (Elt F) v.elt_eq)).injective hx

/-- The tile's block of the array of rows is the rows of its own 512 words. -/
theorem rows_block (ix : S819200.Idx → BitVec 32) (tb : S500000x128.Idx → F .f32) :
    rowsAt ix tb (512 * (2 * (L 1).val + (L 0).val)) = (gRow L).view.read (Elt F) (rowsOut ix tb) := by
  funext x
  have e := k0_off3_eq L
  have e0 : k0_off3 L 0 = 1024 * (L 1).val + 512 * (L 0).val := congrFun e 0
  have e1 : k0_off3 L 1 = 0 := congrFun e 1
  show rowsAt ix tb _ x = rowsOut ix tb ((gRow L).view.emb x)
  have h0 : ((gRow L).view.emb x 0).val = 512 * (2 * (L 1).val + (L 0).val) + (x 0).val := by
    show k0_off3 L 0 + 1 * (x 0).val = _
    omega
  have h1 : (gRow L).view.emb x 1 = x 1 := Fin.ext (by
    show k0_off3 L 1 + 1 * (x 1).val = _
    omega)
  unfold rowsAt rowsOut
  rw [h0, h1]

/-- The tile's block of the array of sums is what the tile writes there. -/
theorem sums_block (ix : S819200.Idx → BitVec 32) (tb : S500000x128.Idx → F .f32) :
    (fun x : S128.Idx => blockAt ix tb (2 * (L 1).val + (L 0).val) (x 0).val) = (pRow L).view.read (Elt F) (sumsOut ix tb) := by
  funext x
  have e0 : k0_off39 L 0 = 256 * (L 1).val + 128 * (L 0).val := congrFun (k0_off39_eq L) 0
  show _ = sumsOut ix tb ((pRow L).view.emb x)
  have h0 : ((pRow L).view.emb x 0).val = 128 * (2 * (L 1).val + (L 0).val) + (x 0).val := by
    show k0_off39 L 0 + 1 * (x 0).val = _
    omega
  have hx : (x 0).val < 128 := (x 0).isLt
  unfold sumsOut
  rw [h0, Nat.mul_add_mod, Nat.mod_eq_of_lt hx, Nat.mul_add_div (by decide), Nat.div_eq_of_lt hx, Nat.add_zero]

/-- One stored piece of sixteen lanes at offset `16 * p`, a function of the lane. -/
theorem lane_of (p : ℕ) (x : S16.Idx) : lane (16 * p + (x 0).val) = x := by
  funext a
  fin_cases a
  have hx : (x 0).val < 16 := (x 0).isLt
  exact Fin.ext (by show (16 * p + (x 0).val) % 16 = (x 0).val; omega)

theorem blockAt_sum (ix : S819200.Idx → BitVec 32) (tb : S500000x128.Idx → F .f32) (t p : ℕ) (hp : p < 4) (x : S16.Idx) :
    blockAt ix tb t (16 * p + (x 0).val) = accAt ix tb (16384 + 25088 * t) p 25088 x := by
  have hx : (x 0).val < 16 := (x 0).isLt
  unfold blockAt
  rw [if_pos (by omega), lane_of, show (16 * p + (x 0).val) / 16 = p by omega]

theorem blockAt_zero (ix : S819200.Idx → BitVec 32) (tb : S500000x128.Idx → F .f32) (t p : ℕ) (hp : 4 ≤ p) (x : S16.Idx) :
    blockAt ix tb t (16 * p + (x 0).val) = k0_pay62 (F := F) x := by
  unfold blockAt
  rw [if_neg (by omega), lane_of]

/-- The eight stores of sixteen lanes leave the tile's block in the buffer. -/
theorem block_stores (ix : S819200.Idx → BitVec 32) (tb : S500000x128.Idx → F .f32) (t : ℕ) {sp : Space} (v : View sig .scVector sp S128 .f32)
    (f : v.ty.Contents (Elt F)) (y : S128.Idx) :
    v.read (Elt F) (v.writes (Elt F) f
      [⟨Rect.unit (s := S128) ![112] S16.size inb_S128_S16_112, k0_pay6 (k0_pay62 (F := F))⟩,
        ⟨Rect.unit (s := S128) ![96] S16.size inb_S128_S16_96, k0_pay5 (k0_pay62 (F := F))⟩,
        ⟨Rect.unit (s := S128) ![80] S16.size inb_S128_S16_80, k0_pay4 (k0_pay62 (F := F))⟩,
        ⟨Rect.unit (s := S128) ![64] S16.size inb_S128_S16_64, k0_pay3 (k0_pay62 (F := F))⟩,
        ⟨Rect.unit (s := S128) ![48] S16.size inb_S128_S16_48, k0_pay2 (accAt ix tb (16384 + 25088 * t) 3 25088)⟩,
        ⟨Rect.unit (s := S128) ![32] S16.size inb_S128_S16_32, k0_pay1 (accAt ix tb (16384 + 25088 * t) 2 25088)⟩,
        ⟨Rect.unit (s := S128) ![16] S16.size inb_S128_S16_16, k0_pay65 (accAt ix tb (16384 + 25088 * t) 1 25088)⟩,
        ⟨Rect.unit (s := S128) ![0] S16.size inb_S128_S16_0, k0_pay64 (accAt ix tb (16384 + 25088 * t) 0 25088)⟩]) y
      = blockAt ix tb t (y 0).val := by
  generalize h0 : accAt ix tb (16384 + 25088 * t) 0 25088 = a0
  generalize h1 : accAt ix tb (16384 + 25088 * t) 1 25088 = a1
  generalize h2 : accAt ix tb (16384 + 25088 * t) 2 25088 = a2
  generalize h3 : accAt ix tb (16384 + 25088 * t) 3 25088 = a3
  have key : ∀ (o p : ℕ) (inb : ∀ a, (![o] : Fin 1 → ℕ) a + S16.size a ≤ S128.size a) (ho : o = 16 * p) (x : S16.Idx),
      blockAt ix tb t (((Rect.unit (s := S128) ![o] S16.size inb).emb x) 0).val = blockAt ix tb t (16 * p + (x 0).val) := by
    intro o p inb ho x
    congr 1
    show o + 1 * (x 0).val = _
    omega
  refine View.read_writes_apply_of_pieces v f (fun y => blockAt ix tb t (y 0).val) _ ?_ y ?_
  · intro p hp x
    simp only [List.mem_cons, List.not_mem_nil, _root_.or_false] at hp
    rcases hp with rfl | rfl | rfl | rfl | rfl | rfl | rfl | rfl
    · exact (congrFun (shapeCast_self _ shapeCasts_S16_S16) x).trans ((blockAt_zero ix tb t 7 (by decide) x).symm.trans (key 112 7 inb_S128_S16_112 rfl x).symm)
    · exact (congrFun (shapeCast_self _ shapeCasts_S16_S16) x).trans ((blockAt_zero ix tb t 6 (by decide) x).symm.trans (key 96 6 inb_S128_S16_96 rfl x).symm)
    · exact (congrFun (shapeCast_self _ shapeCasts_S16_S16) x).trans ((blockAt_zero ix tb t 5 (by decide) x).symm.trans (key 80 5 inb_S128_S16_80 rfl x).symm)
    · exact (congrFun (shapeCast_self _ shapeCasts_S16_S16) x).trans ((blockAt_zero ix tb t 4 (by decide) x).symm.trans (key 64 4 inb_S128_S16_64 rfl x).symm)
    · subst h3
      exact (congrFun (shapeCast_self _ shapeCasts_S16_S16) x).trans ((blockAt_sum ix tb t 3 (by decide) x).symm.trans (key 48 3 inb_S128_S16_48 rfl x).symm)
    · subst h2
      exact (congrFun (shapeCast_self _ shapeCasts_S16_S16) x).trans ((blockAt_sum ix tb t 2 (by decide) x).symm.trans (key 32 2 inb_S128_S16_32 rfl x).symm)
    · subst h1
      exact (congrFun (shapeCast_self _ shapeCasts_S16_S16) x).trans ((blockAt_sum ix tb t 1 (by decide) x).symm.trans (key 16 1 inb_S128_S16_16 rfl x).symm)
    · subst h0
      exact (congrFun (shapeCast_self _ shapeCasts_S16_S16) x).trans ((blockAt_sum ix tb t 0 (by decide) x).symm.trans (key 0 0 inb_S128_S16_0 rfl x).symm)
  · have hy : (y 0).val < 128 := (y 0).isLt
    have hm : ∀ (o : ℕ) (inb : ∀ a, (![o] : Fin 1 → ℕ) a + S16.size a ≤ S128.size a), o ≤ (y 0).val → (y 0).val < o + 16 →
        y ∈ (Rect.unit (s := S128) ![o] S16.size inb).set := fun o inb h1 h2 => Rect.mem_set_unit.2 fun a => by
      fin_cases a; exact ⟨h1, h2⟩
    simp only [List.mem_cons, List.not_mem_nil, or_false, exists_eq_or_imp, exists_eq_left]
    rcases (by omega : (112 ≤ (y 0).val ∧ (y 0).val < 112 + 16) ∨ (96 ≤ (y 0).val ∧ (y 0).val < 96 + 16) ∨ (80 ≤ (y 0).val ∧ (y 0).val < 80 + 16)
        ∨ (64 ≤ (y 0).val ∧ (y 0).val < 64 + 16) ∨ (48 ≤ (y 0).val ∧ (y 0).val < 48 + 16) ∨ (32 ≤ (y 0).val ∧ (y 0).val < 32 + 16)
        ∨ (16 ≤ (y 0).val ∧ (y 0).val < 16 + 16) ∨ (0 ≤ (y 0).val ∧ (y 0).val < 0 + 16)) with h | h | h | h | h | h | h | h
    · exact .inl (hm _ _ h.1 h.2)
    · exact .inr (.inl (hm _ _ h.1 h.2))
    · exact .inr (.inr (.inl (hm _ _ h.1 h.2)))
    · exact .inr (.inr (.inr (.inl (hm _ _ h.1 h.2))))
    · exact .inr (.inr (.inr (.inr (.inl (hm _ _ h.1 h.2)))))
    · exact .inr (.inr (.inr (.inr (.inr (.inl (hm _ _ h.1 h.2))))))
    · exact .inr (.inr (.inr (.inr (.inr (.inr (.inl (hm _ _ h.1 h.2)))))))
    · exact .inr (.inr (.inr (.inr (.inr (.inr (.inr (hm _ _ h.1 h.2)))))))

set_option maxHeartbeats 16000000 in
/-- The whole task of a tile. -/
theorem tile_core (qi q : PosShare TreeShare) (ix : S819200.Idx → BitVec 32) (tb : S500000x128.Idx → F .f32) (hix : ∀ x, (ix x).toNat < 1000000)
    (O : CellTallies nD τ sig (HIx 1)) (W : Waits sig (HIx 1)) (g0 : S16384x128.Idx → F .f32) (p0 : S4096.Idx → F .f32) :
    iprop(Transfers.MayWaits (thr d L) (none : HIx 1) O
        ∗ ((iV).view.loc (thr d L) ↦{qi} ix) ∗ ((tV).view.loc (thr d L) ↦{q} tb)
        ∗ ((gV).view.loc (thr d L) ↦[(gRow L).view.set]{fullShare} g0) ∗ ((pV).view.loc (thr d L) ↦[(pRow L).view.set]{fullShare} p0)
        ∗ (∃ w, (aV).view.loc (thr d L) ↦{fullShare} w) ∗ (∃ h, (bV).view.loc (thr d L) ↦{fullShare} h) ∗ (∃ g, (rV).view.loc (thr d L) ↦{fullShare} g)
        ∗ (∃ s, (sV).view.loc (thr d L) ↦{fullShare} s)
        ∗ semVal (thr d L, SemLoc.dma cc0_scratch4.sem) 0 ∗ semVal (thr d L, SemLoc.dma cc0_scoped0.sem) 0 ∗ semVal (thr d L, SemLoc.dma cc0_scoped1.sem) 0
        ∗ semVal (thr d L, SemLoc.dma cc0_scoped2.sem) 0 ∗ semVal (thr d L, SemLoc.dma cc0_scoped3.sem) 0
        ∗ owes (thr d L) O W)
      ⊢ wp (M := 𝕄) frame (wpE (defs₀ (F := F)) 𝒱₀ (thr d L) none) Set.univ
          (cc0__sc_gather_kernel L iV (Memref.isWhole_whole _) tV (Memref.isWhole_whole _) gV (Memref.isWhole_whole _) pV (Memref.isWhole_whole _)
            aV (Memref.isWhole_whole _) bV (Memref.isWhole_whole _) rV (Memref.isWhole_whole _) sV (Memref.isWhole_whole _)
            cc0_scratch4 cc0_scoped0 cc0_scoped1 cc0_scoped2 cc0_scoped3)
          fun _ => iprop(((iV).view.loc (thr d L) ↦{qi} ix) ∗ ((tV).view.loc (thr d L) ↦{q} tb)
            ∗ ((gV).view.loc (thr d L) ↦[(gRow L).view.set]{fullShare} rowsOut ix tb) ∗ ((pV).view.loc (thr d L) ↦[(pRow L).view.set]{fullShare} sumsOut ix tb)
            ∗ (∃ w, (aV).view.loc (thr d L) ↦{fullShare} w) ∗ (∃ h, (bV).view.loc (thr d L) ↦{fullShare} h) ∗ (∃ g, (rV).view.loc (thr d L) ↦{fullShare} g)
            ∗ (∃ s, (sV).view.loc (thr d L) ↦{fullShare} s)
            ∗ semVal (thr d L, SemLoc.dma cc0_scratch4.sem) 0 ∗ semVal (thr d L, SemLoc.dma cc0_scoped0.sem) 0 ∗ semVal (thr d L, SemLoc.dma cc0_scoped1.sem) 0
            ∗ semVal (thr d L, SemLoc.dma cc0_scoped2.sem) 0 ∗ semVal (thr d L, SemLoc.dma cc0_scoped3.sem) 0
            ∗ ∃ W', ⌜∀ p ∈ W', p ∈ W ∨ p.2 = none⌝ ∗ owes (thr d L) O W') := by
  have hw := wid_lt L
  simp -proj only [cc0__sc_gather_kernel_eq_skeleton]
  unfold cc0__sc_gather_kernel_skel
  simp -proj only [k0_part10_eq_skeleton]
  iintro ⟨#Hmw, Hi, Ht, Hg, Hp, ⟨%w, Ha⟩, ⟨%h, Hb⟩, ⟨%g, Hr⟩, ⟨%s, Hs⟩, Hs4, Hd0, Hd1, Hd2, Hd3, HO⟩
  have e1 : ((gV).view.loc (thr d L) ↦[(gRow L).view.set]{fullShare} g0 : sProp 𝕄) = ((gRow L).view.loc (thr d L) ↦[(gRow L).view.set]{fullShare} g0) := rfl
  have e2 : ((pV).view.loc (thr d L) ↦[(pRow L).view.set]{fullShare} p0 : sProp 𝕄) = ((pRow L).view.loc (thr d L) ↦[(pRow L).view.set]{fullShare} p0) := rfl
  ihave Hg' := (Entails.of_eq e1) $$ Hg
  ihave Hp' := (Entails.of_eq e2) $$ Hp
  sl_exec (disch := exact View.amount_pos _ _ (show 0 < S512.numel by decide))
  have hread : tile_core.sl.dma0 (F := F) L ix = wordsAt ix (512 * (2 * (L 1).val + (L 0).val)) :=
    read_words ix (512 * (2 * (L 1).val + (L 0).val)) (by omega) ((k0_off1_eq L).trans (by congr 1; omega)) _ _
  rw [View.write_whole_univ, hread]
  generalize hb : 512 * (2 * (L 1).val + (L 0).val) = b0
  sl_for (halfInv (F := F) d L (wordsAt ix b0)) $$ [Ha Hb]
  case region =>
    intro k' acc
    exact half_step1 (F := F) d L _ k' acc
  · unfold halfInv
    isplitl [Ha]; · iexact Ha
    iexists _; isplitr
    swap; · iexact Hb
    ipureintro; intro x hx; omega
  iintro %_ HI
  unfold halfInv
  icases HI with ⟨Ha, %h', %hh', Hb⟩
  have hh2 := halved_all _ _ hh'
  subst hh2
  iapply (gather_rows (F := F) d L q tb _ (halves_lt ix b0 hix) g O) $$ [Ht Hb Hr Hs4 HO]
  · isplitr; · iexact Hmw
    isplitl [Ht]; · iexact Ht
    isplitl [Hb]; · iexact Hb
    isplitl [Hr]; · iexact Hr
    isplitl [Hs4]; · iexact Hs4
    iexact HO
  iintro ⟨-, Ht, Hb, Hr, Hs4, HO⟩
  rw [gathered_halves]
  sl_exec (disch := exact View.amount_pos _ _ (show 0 < S512x128.numel by decide))
  sl_for (chunkInv (F := F) d L qi q ix tb O W) $$ [Hi Ht Ha Hb Hr Hd2 Hs4 HO]
  case region =>
    intro k' r'
    exact chunk_step (F := F) d L qi q ix tb hix O W k' r'
  · unfold chunkInv
    isplitr; · ipureintro; rfl
    isplitr; · iexact Hmw
    isplitl [Hi]; · iexact Hi
    isplitl [Ht]; · iexact Ht
    isplitl [Ha]; · iexists _; iexact Ha
    isplitl [Hb]; · iexists _; iexact Hb
    isplitl [Hr]; · iexists _; iexact Hr
    isplitl [Hd2]; · iexact Hd2
    isplitl [Hs4]; · iexact Hs4
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  iintro %r' HI
  unfold chunkInv
  icases HI with ⟨%hr', -, Hi, Ht, Ha, Hb, Hr, Hd2, Hs4, %W', %hW', HO⟩
  obtain ⟨r0', r1', r2', r3'⟩ := r'
  sl_exec (disch := exact View.amount_pos _ _ (show 0 < S128.numel by decide))
  sl_step
  have hs16 : tile_core.sl.dma16 (F := F) d L s r0' r1' r2' r3' = fun x => blockAt ix tb (2 * (L 1).val + (L 0).val) (x 0).val := by
    obtain ⟨rfl, rfl, rfl, rfl⟩ : r0' = _ ∧ r1' = _ ∧ r2' = _ ∧ r3' = _ := by
      simpa only [accs, Prod.mk.injEq] using hr'
    exact funext fun y => block_stores ix tb (2 * (L 1).val + (L 0).val) (sV).view s y
  have e3 : ((gRow L).view.loc (thr d L) ↦[(gRow L).view.set]{fullShare} (gRow L).view.writes (Elt F) (gRow L).view.junk [⟨Rect.whole S512x128, tile_core.sl.dma0_1 (F := F) ix tb b0⟩])
      = ((gV).view.loc (thr d L) ↦[(gRow L).view.set]{fullShare} (rowsOut ix tb) : sProp 𝕄) :=
    pointsTo_congr (eq_on_of_read (gRow L).view _ _
      ((View.read_writes_whole _ _ _).trans ((show rowsAt ix tb b0 = rowsAt ix tb (512 * (2 * (L 1).val + (L 0).val)) by rw [hb]).trans (rows_block L ix tb))))
  have e4 : ((pRow L).view.loc (thr d L) ↦[(pRow L).view.set]{fullShare} (pRow L).view.writes (Elt F) p0 [⟨Rect.whole S128, tile_core.sl.dma16 (F := F) d L s r0' r1' r2' r3'⟩])
      = ((pV).view.loc (thr d L) ↦[(pRow L).view.set]{fullShare} (sumsOut ix tb) : sProp 𝕄) :=
    pointsTo_congr (eq_on_of_read (pRow L).view _ _
      ((View.read_writes_whole _ _ _).trans (hs16.trans (sums_block L ix tb))))
  ihave Hg2 := (Entails.of_eq e3) $$ Hg'
  ihave Hp2 := (Entails.of_eq e4) $$ Hp'
  isplitl [Hi]; · iexact Hi
  isplitl [Ht]; · iexact Ht
  isplitl [Hg2]; · iexact Hg2
  isplitl [Hp2]; · iexact Hp2
  isplitl [Ha]; · iexact Ha
  isplitl [Hb]; · iexact Hb
  isplitl [Hr]; · iexact Hr
  isplitl [Hs]; · iexists _; iexact Hs
  isplitl [Hs4]; · iexact Hs4
  isplitl [Hd0]; · iexact Hd0
  isplitl [Hd1]; · iexact Hd1
  isplitl [Hd2]; · iexact Hd2
  isplitl [Hd3]; · iexact Hd3
  iexists _; isplitr
  swap; · iexact HO
  ipureintro; intro p hp
  rcases Finset.mem_insert.mp hp with hp | hp; · exact .inr (hp ▸ rfl)
  exact hW' p hp

end Cert.Proof.Sc

end
-- ==== Proof.Shares.lean ====
/-
  Splitting what the launch holds among the 32 tiles: shares of the arrays every tile reads, the tiles' own blocks of the
  two arrays they write.
-/
module

public import proofs.«01_k».proof.Proof.Tile

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ
local notation "gV" => (Memref.whole Cert.KernelIdeal.main_v1_0_scv : Memref Cert.KernelIdeal.sig Kind.scVector Space.hbm Cert.KernelIdeal.S16384x128 EltTy.f32)
local notation "pV" => (Memref.whole Cert.KernelIdeal.main_v1_1_scv : Memref Cert.KernelIdeal.sig Kind.scVector Space.hbm Cert.KernelIdeal.S4096 EltTy.f32)

/-! ## Read shares, taken off one after the other -/

/-- What is left of a share after `n` readers took half of what they found. -/
def restShare (q : PosShare TreeShare) : ℕ → PosShare TreeShare
  | 0 => q
  | n + 1 => (restShare q n).right

/-- What reader `n` took. -/
def readShare (q : PosShare TreeShare) (n : ℕ) : PosShare TreeShare := (restShare q n).left

theorem sep_swap (P Q R : sProp 𝕄) : iprop(P ∗ Q ∗ R) = iprop((Q ∗ P) ∗ R) := by
  have h1 : iprop(P ∗ Q ∗ R) ⊢ iprop((Q ∗ P) ∗ R) := by
    iintro ⟨HP, HQ, HR⟩
    isplitr [HR]
    · isplitl [HQ]; · iexact HQ
      iexact HP
    iexact HR
  have h2 : iprop((Q ∗ P) ∗ R) ⊢ iprop(P ∗ Q ∗ R) := by
    iintro ⟨⟨HQ, HP⟩, HR⟩
    isplitl [HP]; · iexact HP
    isplitl [HQ]; · iexact HQ
    iexact HR
  exact BI.Entails.antisymm h1 h2

theorem readShare_range {ℓ : Loc nD τ sig} (f : Buf (Elt F) ℓ) (q : PosShare TreeShare) (n : ℕ) :
    (ℓ ↦{q} f : sProp 𝕄) = iprop((bigSep (Finset.range n) fun k => ℓ ↦{readShare q k} f) ∗ ℓ ↦{restShare q n} f) := by
  induction n with
  | zero => rw [Finset.range_zero, BI.bigSep_empty]; exact (BI.Entails.antisymm BI.emp_sep.1 BI.emp_sep.2).symm
  | succ n ih =>
    have h := pointsTo_share (nD := nD) (τ := τ) (sig := sig) (Ix := HIx 1) (Val := Elt F) (Name := ℕ) (U := UU) (Lvl := ℕ) (ℓ := ℓ) (I := Finset.univ) (f := f)
      (PosShare.mem_left_op_right (restShare q n))
    rw [ih, Finset.range_add_one, SparseCore.bigSep_insert' Finset.notMem_range_self]
    rw [show (ℓ ↦{restShare q n} f : sProp 𝕄) = iprop((ℓ ↦{readShare q n} f) ∗ ℓ ↦{restShare q (n + 1)} f) from BI.Entails.antisymm h.1 h.2,
      sep_swap]

/-- A whole array is `n` readers' shares and the rest. -/
theorem readShare_split {ℓ : Loc nD τ sig} (f : Buf (Elt F) ℓ) (q : PosShare TreeShare) (n : ℕ) :
    (ℓ ↦{q} f : sProp 𝕄) = iprop((bigSep Finset.univ fun k : Fin n => ℓ ↦{readShare q k.val} f) ∗ ℓ ↦{restShare q n} f) := by
  rw [readShare_range f q n]
  congr 1
  have e : Finset.range n = (Finset.univ : Finset (Fin n)).map Fin.valEmbedding := by
    ext k; simp only [Finset.mem_range, Finset.mem_map, Finset.mem_univ, true_and, Fin.valEmbedding_apply]
    exact ⟨fun h => ⟨⟨k, h⟩, rfl⟩, fun ⟨i, hi⟩ => hi ▸ i.isLt⟩
  rw [e, BI.bigSep_map]
  rfl

/-! ## The tiles' blocks -/

/-- The rows tile `w` writes. -/
def gSet (w : Fin 32) : Finset S16384x128.Idx := Finset.univ.filter fun x => (x 0).val / 512 = w.val
/-- The words of the array of sums tile `w` writes. -/
def pSet (w : Fin 32) : Finset S4096.Idx := Finset.univ.filter fun x => (x 0).val / 128 = w.val

theorem gSet_disjoint : ∀ a ∈ (Finset.univ : Finset (Fin 32)), ∀ b ∈ (Finset.univ : Finset (Fin 32)), a ≠ b → Disjoint (gSet a) (gSet b) := by
  intro a _ b _ h
  rw [Finset.disjoint_left]
  intro x hx hy
  exact h (Fin.ext ((Finset.mem_filter.mp hx).2.symm.trans (Finset.mem_filter.mp hy).2))

theorem pSet_disjoint : ∀ a ∈ (Finset.univ : Finset (Fin 32)), ∀ b ∈ (Finset.univ : Finset (Fin 32)), a ≠ b → Disjoint (pSet a) (pSet b) := by
  intro a _ b _ h
  rw [Finset.disjoint_left]
  intro x hx hy
  exact h (Fin.ext ((Finset.mem_filter.mp hx).2.symm.trans (Finset.mem_filter.mp hy).2))

theorem gSet_cover : (Finset.univ : Finset (Fin 32)).biUnion gSet = Finset.univ := by
  ext x
  have hx : (x 0).val < 16384 := (x 0).isLt
  simp only [Finset.mem_biUnion, Finset.mem_univ, true_and, iff_true]
  exact ⟨⟨(x 0).val / 512, by omega⟩, Finset.mem_filter.mpr ⟨Finset.mem_univ _, rfl⟩⟩

theorem pSet_cover : (Finset.univ : Finset (Fin 32)).biUnion pSet = Finset.univ := by
  ext x
  have hx : (x 0).val < 4096 := (x 0).isLt
  simp only [Finset.mem_biUnion, Finset.mem_univ, true_and, iff_true]
  exact ⟨⟨(x 0).val / 128, by omega⟩, Finset.mem_filter.mpr ⟨Finset.mem_univ _, rfl⟩⟩

/-- The number of the tile at grid coordinates `L`. -/
def wid (L : grid0.Coords) : Fin 32 := ⟨2 * (L 1).val + (L 0).val, wid_lt L⟩

variable [FloatOps F] [Named F]

/-- The block of rows the tile addresses is its own. -/
theorem gRow_set (L : grid0.Coords) : (gRow L).view.set = gSet (wid L) := by
  show ((View.whole (main_v1_0_scv : Ref sig .scVector)).slice (Rect.unit (s := S16384x128) (k0_off3 L) S512x128.size (k0_off3_inb L))).set = _
  rw [View.set_slice]
  have e0 : k0_off3 L 0 = 1024 * (L 1).val + 512 * (L 0).val := congrFun (k0_off3_eq L) 0
  have e1 : k0_off3 L 1 = 0 := congrFun (k0_off3_eq L) 1
  refine (Finset.map_refl (s := (Rect.unit (s := S16384x128) (k0_off3 L) S512x128.size (k0_off3_inb L)).set)).trans ?_
  ext x
  rw [Rect.mem_set_unit]
  unfold gSet wid
  rw [Finset.mem_filter]
  constructor
  · intro h
    have h0 := h 0
    have : S512x128.size 0 = 512 := rfl
    exact ⟨Finset.mem_univ _, by show _ = 2 * (L 1).val + (L 0).val; omega⟩
  · rintro ⟨-, h⟩
    have h' : (x 0).val / 512 = 2 * (L 1).val + (L 0).val := h
    intro a
    match a with
    | 0 => exact ⟨by omega, by show _ < k0_off3 L 0 + 512; omega⟩
    | 1 => exact ⟨by omega, by have : (x 1).val < 128 := (x 1).isLt
                               show (x 1).val < k0_off3 L 1 + 128; omega⟩

/-- The block of sums the tile addresses is its own. -/
theorem pRow_set (L : grid0.Coords) : (pRow L).view.set = pSet (wid L) := by
  show ((View.whole (main_v1_1_scv : Ref sig .scVector)).slice (Rect.unit (s := S4096) (k0_off39 L) S128.size (k0_off39_inb L))).set = _
  rw [View.set_slice]
  have e0 : k0_off39 L 0 = 256 * (L 1).val + 128 * (L 0).val := congrFun (k0_off39_eq L) 0
  refine (Finset.map_refl (s := (Rect.unit (s := S4096) (k0_off39 L) S128.size (k0_off39_inb L)).set)).trans ?_
  ext x
  rw [Rect.mem_set_unit]
  unfold pSet wid
  rw [Finset.mem_filter]
  constructor
  · intro h
    have h0 := h 0
    have : S128.size 0 = 128 := rfl
    exact ⟨Finset.mem_univ _, by show _ = 2 * (L 1).val + (L 0).val; omega⟩
  · rintro ⟨-, h⟩
    have h' : (x 0).val / 128 = 2 * (L 1).val + (L 0).val := h
    intro a
    match a with
    | 0 => exact ⟨by omega, by show _ < k0_off39 L 0 + 128; omega⟩

end Cert.Proof.Sc

end
-- ==== Proof.Launch.lean ====
/-
  The SparseCore call as the launch theorem sees it: what the start and the end of the call carry, and each tile's
  obligation.
-/
module

public import proofs.«01_k».proof.Proof.Shares

@[expose] public section

set_option backward.isDefEq.respectTransparency.types false

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "iV" => (Memref.whole Cert.KernelIdeal.main_arg0_scv : Memref Cert.KernelIdeal.sig Kind.scVector Space.hbm Cert.KernelIdeal.S819200 EltTy.i32)
local notation "tV" => (Memref.whole Cert.KernelIdeal.main_v0_scv : Memref Cert.KernelIdeal.sig Kind.scVector Space.hbm Cert.KernelIdeal.S500000x128 EltTy.f32)
local notation "gV" => (Memref.whole Cert.KernelIdeal.main_v1_0_scv : Memref Cert.KernelIdeal.sig Kind.scVector Space.hbm Cert.KernelIdeal.S16384x128 EltTy.f32)
local notation "pV" => (Memref.whole Cert.KernelIdeal.main_v1_1_scv : Memref Cert.KernelIdeal.sig Kind.scVector Space.hbm Cert.KernelIdeal.S4096 EltTy.f32)
local notation "aV" => (Memref.whole Cert.KernelIdeal.cc0_scratch0 : Memref Cert.KernelIdeal.sig Kind.scVector Space.vmem Cert.KernelIdeal.S512 EltTy.i32)
local notation "bV" => (Memref.whole Cert.KernelIdeal.cc0_scratch1 : Memref Cert.KernelIdeal.sig Kind.scVector Space.vmem Cert.KernelIdeal.S512 EltTy.i32)
local notation "rV" => (Memref.whole Cert.KernelIdeal.cc0_scratch2 : Memref Cert.KernelIdeal.sig Kind.scVector Space.vmem Cert.KernelIdeal.S512x128 EltTy.f32)
local notation "sV" => (Memref.whole Cert.KernelIdeal.cc0_scratch3 : Memref Cert.KernelIdeal.sig Kind.scVector Space.vmem Cert.KernelIdeal.S128 EltTy.f32)

abbrev K : SparseCore.Cfg τ sig (ΛP (F := F)) 1 := sc (F := F)
abbrev D : Defs nD τ sig (Elt F) (ΛP (F := F)) := Pipeline.defs pcfgs defs₀

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds are the first component of the proof's algebra, -/
abbrev EH : Emb UH (MT nD τ sig (HIx 1) (Elt F) ℕ UU ℕ) := embL
/-- the pipeline's the second. -/
abbrev EP : Emb UP (MT nD τ sig (HIx 1) (Elt F) ℕ UU ℕ) := (Emb.inl : Emb UP (UP × Counters)).trans embR

/-! ## The arrays -/

abbrev iLoc (d : Dev nD) : Loc nD τ sig := (SparseCore.T d).loc main_arg0
abbrev tLoc (d : Dev nD) : Loc nD τ sig := (SparseCore.T d).loc main_v0
abbrev gLoc (d : Dev nD) : Loc nD τ sig := (SparseCore.T d).loc main_v1_0
abbrev pLoc (d : Dev nD) : Loc nD τ sig := (SparseCore.T d).loc main_v1_1

variable (m : (ℓ : Loc nD τ sig) → Buf (Elt F) ℓ)

/-- The words, the paired table. -/
def words (d : Dev nD) : S819200.Idx → BitVec 32 := m (iLoc d)
def tabOf (d : Dev nD) : S500000x128.Idx → F .f32 := shapeCast S500000x128 (m ((SparseCore.T d).loc main_arg2)) shapeCasts_S1000000x64_S500000x128

/-! ## What the call carries -/

/-- Tile `w`'s part before its task: read shares of the words and of the table, its own blocks of the two results. -/
def tileIn (d : Dev nD) (w : Fin 32) : sProp 𝕄 :=
  iprop((iLoc d ↦{readShare fullShare w.val} words m d) ∗ (tLoc d ↦{readShare fullShare w.val} tabOf m d)
    ∗ (gLoc d ↦[gSet w]{fullShare} m (gLoc d)) ∗ (pLoc d ↦[pSet w]{fullShare} m (pLoc d)))

/-- And after it: the blocks written. -/
def tileOut (d : Dev nD) (w : Fin 32) : sProp 𝕄 :=
  iprop((iLoc d ↦{readShare fullShare w.val} words m d) ∗ (tLoc d ↦{readShare fullShare w.val} tabOf m d)
    ∗ (gLoc d ↦[gSet w]{fullShare} rowsOut (words m d) (tabOf m d)) ∗ (pLoc d ↦[pSet w]{fullShare} sumsOut (words m d) (tabOf m d)))

/-- The tile number of subcore `i` of SparseCore `c`. -/
def tileNo (c : Fin 2) (i : Fin 16) : Fin 32 := ⟨2 * i.val + c.val, by omega⟩

def P : (K (F := F)).Pay (nD := nD) (Val := Elt F) (Name := ℕ) (U := UU) where
  st := fun q d c => match q with | 0 => bigSep Finset.univ fun i : Fin 16 => tileIn m d (tileNo c i)
  dn := fun q d c => match q with | 0 => bigSep Finset.univ fun i : Fin 16 => tileOut m d (tileNo c i)
  go := fun q d c i => match q with | 0 => tileIn m d (tileNo c i)
  td := fun q d c i => match q with | 0 => tileOut m d (tileNo c i)
  x := fun _ _ => iprop(emp)

instance tileIn_storable (d : Dev nD) (w : Fin 32) : BI.Storable (upEmb : UEmb _ 𝕄) (tileIn m d w) := by unfold tileIn; infer_instance
instance tileOut_storable (d : Dev nD) (w : Fin 32) : BI.Storable (upEmb : UEmb _ 𝕄) (tileOut m d w) := by unfold tileOut; infer_instance

instance P_storable : (P (F := F) m).IsStorable where
  st q d c := match q with
    | 0 => (inferInstance : BI.Storable (upEmb : UEmb _ 𝕄) (bigSep Finset.univ fun i : Fin 16 => tileIn m d (tileNo c i)))
  dn q d c := match q with
    | 0 => (inferInstance : BI.Storable (upEmb : UEmb _ 𝕄) (bigSep Finset.univ fun i : Fin 16 => tileOut m d (tileNo c i)))
  go q d c i := match q with | 0 => tileIn_storable m d (tileNo c i)
  td q d c i := match q with | 0 => tileOut_storable m d (tileNo c i)

/-- A core's part is its tiles' at once. -/
theorem vecSplit : (K (F := F)).VecSplit' (P m) 0 := by
  intro d c
  show (bigSep Finset.univ fun i : Fin 16 => tileIn m d (tileNo c i)) ⊢ |={Set.univ}=> iprop(
      (bigSep Finset.univ fun i : Fin 16 => tileIn m d (tileNo c i))
      ∗ ((bigSep Finset.univ fun i : Fin 16 => tileOut m d (tileNo c i)) -∗ (bigSep Finset.univ fun i : Fin 16 => tileOut m d (tileNo c i))))
  iintro H; imodintro
  isplitl [H]; · iexact H
  iintro H; iexact H

/-- What the run asks of the launch memory: every word names a row of the table. -/
def InRange : Prop := ∀ (d : Dev nD) (x : S819200.Idx), (words m d x).toNat < 1000000

/-! ## A tile's own buffers and semaphores -/

section Tile

variable (d : Dev nD) (L : grid0.Coords)

/-- The five semaphore cells of a tile's copies. -/
def tileCells : Finset (GSem nD τ sig) :=
  {(thr d L, SemLoc.dma cc0_scratch4.sem), (thr d L, SemLoc.dma cc0_scoped0.sem), (thr d L, SemLoc.dma cc0_scoped1.sem),
    (thr d L, SemLoc.dma cc0_scoped2.sem), (thr d L, SemLoc.dma cc0_scoped3.sem)}

theorem cell_ne {a b : DmaSem sig} (h : a ≠ b) : ((thr d L, SemLoc.dma a) : GSem nD τ sig) ≠ (thr d L, SemLoc.dma b) :=
  fun e => h (by injection e with _ e2; injection e2)

theorem cell_mem {a : DmaSem sig} (h : (SemLoc.dma a : SemLoc sig).isScoped .scVector = true) :
    ((thr d L, SemLoc.dma a) : GSem nD τ sig) ∈ ownCells (thr d L) := mem_ownCells.mpr ⟨rfl, h⟩

theorem tileCells_sub : tileCells d L ⊆ ownCells (thr d L) := by
  intro g hg
  simp only [tileCells, Finset.mem_insert, Finset.mem_singleton] at hg
  rcases hg with rfl | rfl | rfl | rfl | rfl <;> exact cell_mem d L (by decide)

theorem tileCells_eq (Φ : GSem nD τ sig → sProp 𝕄) : bigSep (tileCells d L) Φ
    = iprop(Φ (thr d L, SemLoc.dma cc0_scratch4.sem) ∗ Φ (thr d L, SemLoc.dma cc0_scoped0.sem) ∗ Φ (thr d L, SemLoc.dma cc0_scoped1.sem)
      ∗ Φ (thr d L, SemLoc.dma cc0_scoped2.sem) ∗ Φ (thr d L, SemLoc.dma cc0_scoped3.sem)) := by
  have h01 := cell_ne d L (show cc0_scratch4.sem ≠ cc0_scoped0.sem by decide)
  have h02 := cell_ne d L (show cc0_scratch4.sem ≠ cc0_scoped1.sem by decide)
  have h03 := cell_ne d L (show cc0_scratch4.sem ≠ cc0_scoped2.sem by decide)
  have h04 := cell_ne d L (show cc0_scratch4.sem ≠ cc0_scoped3.sem by decide)
  have h12 := cell_ne d L (show cc0_scoped0.sem ≠ cc0_scoped1.sem by decide)
  have h13 := cell_ne d L (show cc0_scoped0.sem ≠ cc0_scoped2.sem by decide)
  have h14 := cell_ne d L (show cc0_scoped0.sem ≠ cc0_scoped3.sem by decide)
  have h23 := cell_ne d L (show cc0_scoped1.sem ≠ cc0_scoped2.sem by decide)
  have h24 := cell_ne d L (show cc0_scoped1.sem ≠ cc0_scoped3.sem by decide)
  have h34 := cell_ne d L (show cc0_scoped2.sem ≠ cc0_scoped3.sem by decide)
  unfold tileCells
  rw [SparseCore.bigSep_insert' (by simp only [Finset.mem_insert, Finset.mem_singleton]; rintro (h | h | h | h) <;> contradiction),
    SparseCore.bigSep_insert' (by simp only [Finset.mem_insert, Finset.mem_singleton]; rintro (h | h | h) <;> contradiction),
    SparseCore.bigSep_insert' (by simp only [Finset.mem_insert, Finset.mem_singleton]; rintro (h | h) <;> contradiction),
    SparseCore.bigSep_insert' (by simp only [Finset.mem_singleton]; intro h; contradiction), BI.bigSep_singleton]

/-- A tile's own cells at zero are those five at zero, and the rest. -/
theorem ownSems0_tile : (ownSems0 (thr d L) : sProp 𝕄)
    = iprop((bigSep (tileCells d L) fun g => semVal g 0) ∗ bigSep (ownCells (thr d L) \ tileCells d L) fun g => semVal g 0) := by
  unfold SparseCore.Cfg.ownSems0
  exact SparseCore.bigSep_sdiff_split' (tileCells_sub d L)

/-- The four scratch buffers of a tile. -/
def tileRefs : Finset (DevRef τ sig) :=
  {(thr d L).2.devRef cc0_scratch0, (thr d L).2.devRef cc0_scratch1, (thr d L).2.devRef cc0_scratch2, (thr d L).2.devRef cc0_scratch3}

theorem tileRefs_sub : tileRefs d L ⊆ ownRefs (thr d L).2 := by
  intro b hb
  simp only [tileRefs, Finset.mem_insert, Finset.mem_singleton] at hb
  rcases hb with rfl | rfl | rfl | rfl <;> exact SparseCore.Cfg.mem_ownRefs_of_owner rfl

theorem ref_ne {a b : Ref sig .scVector} (h : a ≠ b) : (thr d L).2.devRef a ≠ (thr d L).2.devRef b :=
  fun e => h (Proc.devRef_injective _ e)

theorem tileRefs_eq (Φ : DevRef τ sig → sProp 𝕄) : bigSep (tileRefs d L) Φ
    = iprop(Φ ((thr d L).2.devRef cc0_scratch0) ∗ Φ ((thr d L).2.devRef cc0_scratch1) ∗ Φ ((thr d L).2.devRef cc0_scratch2) ∗ Φ ((thr d L).2.devRef cc0_scratch3)) := by
  have h01 := ref_ne d L (show (cc0_scratch0 : Ref sig .scVector) ≠ cc0_scratch1 by decide)
  have h02 := ref_ne d L (show (cc0_scratch0 : Ref sig .scVector) ≠ cc0_scratch2 by decide)
  have h03 := ref_ne d L (show (cc0_scratch0 : Ref sig .scVector) ≠ cc0_scratch3 by decide)
  have h12 := ref_ne d L (show (cc0_scratch1 : Ref sig .scVector) ≠ cc0_scratch2 by decide)
  have h13 := ref_ne d L (show (cc0_scratch1 : Ref sig .scVector) ≠ cc0_scratch3 by decide)
  have h23 := ref_ne d L (show (cc0_scratch2 : Ref sig .scVector) ≠ cc0_scratch3 by decide)
  unfold tileRefs
  rw [SparseCore.bigSep_insert' (by simp only [Finset.mem_insert, Finset.mem_singleton]; rintro (h | h | h) <;> contradiction),
    SparseCore.bigSep_insert' (by simp only [Finset.mem_insert, Finset.mem_singleton]; rintro (h | h) <;> contradiction),
    SparseCore.bigSep_insert' (by simp only [Finset.mem_singleton]; intro h; contradiction), BI.bigSep_singleton]

/-- A tile's own buffers are those four, at some contents, and the rest. -/
theorem ownBufs_tile : (ownBufs (thr d L) : sProp 𝕄)
    = iprop((bigSep (tileRefs d L) fun b => iprop(∃ f, ((d, b) : Loc nD τ sig) ↦{fullShare} f))
        ∗ bigSep (ownRefs (thr d L).2 \ tileRefs d L) fun b => iprop(∃ f, ((d, b) : Loc nD τ sig) ↦{fullShare} f)) := by
  unfold SparseCore.Cfg.ownBufs
  exact SparseCore.bigSep_sdiff_split' (tileRefs_sub d L)

/-! ## The task -/

/-- The task on the tile at coordinates `L`, from what the call hands it to what it hands back. -/
theorem tile_body (hF : (K (F := F)).Facts) (hm : InRange m) (O : CellTallies nD τ sig (HIx 1)) (W : Waits sig (HIx 1)) (hO : ∀ g, O g none = 0) :
    iprop(levAts (K (F := F)).L (K (F := F)).lev ∗ emp ∗ tileIn m d (wid L)
        ∗ scopedBufs (thr d L) ∗ scopedSems0 (thr d L) ∗ owes (thr d L) O W)
      ⊢ wp (M := 𝕄) frame (wpE (defs₀ (F := F)) 𝒱₀ (thr d L) none) Set.univ
          (cc0__sc_gather_kernel L iV (Memref.isWhole_whole _) tV (Memref.isWhole_whole _) gV (Memref.isWhole_whole _) pV (Memref.isWhole_whole _)
            aV (Memref.isWhole_whole _) bV (Memref.isWhole_whole _) rV (Memref.isWhole_whole _) sV (Memref.isWhole_whole _)
            cc0_scratch4 cc0_scoped0 cc0_scoped1 cc0_scoped2 cc0_scoped3)
          fun _ => iprop(tileOut m d (wid L) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  rw [show V d (cV L) (jV L) = thr d L from rfl, ownSems0_tile, ownBufs_tile, tileCells_eq, tileRefs_eq]
  unfold tileIn tileOut
  rw [← gRow_set, ← pRow_set]
  iintro ⟨#Hlv, -, ⟨Hi, Ht, Hg, Hp⟩, ⟨⟨Ha, Hb, Hr, Hs⟩, Hbufs⟩, ⟨⟨H4, H0, H1, H2, H3⟩, Hsems⟩, HO⟩
  ihave #Hmw := (show levAts (K (F := F)).L (K (F := F)).lev ⊢ Transfers.MayWaits (thr d L) (none : HIx 1) O from
    (K (F := F)).mayWaits_none (thr := thr d L) hO) $$ Hlv
  iapply (wp_wand_r frame _ _)
  isplitl [Hi Ht Hg Hp Ha Hb Hr Hs H4 H0 H1 H2 H3 HO]
  · iapply (tile_core (F := F) d L (readShare fullShare (wid L).val) (readShare fullShare (wid L).val) (words m d) (tabOf m d) (hm d) O W (m (gLoc d)) (m (pLoc d)))
    isplitr; · iexact Hmw
    isplitl [Hi]; · iexact Hi
    isplitl [Ht]; · iexact Ht
    isplitl [Hg]; · iexact Hg
    isplitl [Hp]; · iexact Hp
    isplitl [Ha]; · iexact Ha
    isplitl [Hb]; · iexact Hb
    isplitl [Hr]; · iexact Hr
    isplitl [Hs]; · iexact Hs
    isplitl [H4]; · iexact H4
    isplitl [H0]; · iexact H0
    isplitl [H1]; · iexact H1
    isplitl [H2]; · iexact H2
    isplitl [H3]; · iexact H3
    iexact HO
  iintro %_ ⟨Hi, Ht, Hg, Hp, Ha, Hb, Hr, Hs, H4, H0, H1, H2, H3, HO⟩
  isplitl [Hi Ht Hg Hp]
  · isplitl [Hi]; · iexact Hi
    isplitl [Ht]; · iexact Ht
    isplitl [Hg]; · iexact Hg
    iexact Hp
  isplitl [Ha Hb Hr Hs Hbufs]
  · isplitr [Hbufs]
    · isplitl [Ha]; · iexact Ha
      isplitl [Hb]; · iexact Hb
      isplitl [Hr]; · iexact Hr
      iexact Hs
    iexact Hbufs
  isplitr [HO]
  · isplitr [Hsems]
    · isplitl [H4]; · iexact H4
      isplitl [H0]; · iexact H0
      isplitl [H1]; · iexact H1
      isplitl [H2]; · iexact H2
      iexact H3
    iexact Hsems
  iexact HO

/-- The grid coordinates of subcore `s` of SparseCore `c`. -/
def coordsOf (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_kernel (coordsOf c s)
          iV (Memref.isWhole_whole _) tV (Memref.isWhole_whole _) gV (Memref.isWhole_whole _) pV (Memref.isWhole_whole _)
          aV (Memref.isWhole_whole _) bV (Memref.isWhole_whole _) rV (Memref.isWhole_whole _) sV (Memref.isWhole_whole _)
          cc0_scratch4 cc0_scoped0 cc0_scoped1 cc0_scoped2 cc0_scoped3) ⟨⟩ c s := rfl

theorem widen_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each tile's obligation. -/
theorem tileObl (hm : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsOf ⟨_, hci.1⟩ ⟨_, hci.2⟩) facts hm O W hO).trans (wp_mono frame _ _ fun _ => widen_post)

end Tile

end Cert.Proof.Sc

end
-- ==== Proof.Payload.lean ====
/-
  The call's arrays cut among the thirty-two tiles, and put together again.
-/
module

public import proofs.«01_k».proof.Proof.Launch

@[expose] public section

noncomputable section

namespace Cert.Proof.Sc

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ)

/-- A SparseCore and a subcore of it name a tile, and every tile once. -/
def tileEquiv : Fin 2 × Fin 16 ≃ Fin 32 where
  toFun p := tileNo p.1 p.2
  invFun w := (⟨w.val % 2, by omega⟩, ⟨w.val / 2, by omega⟩)
  left_inv := fun ⟨c, i⟩ => Prod.ext (Fin.ext (by show (2 * i.val + c.val) % 2 = c.val; omega)) (Fin.ext (by show (2 * i.val + c.val) / 2 = i.val; omega))
  right_inv := fun w => Fin.ext (by show 2 * (w.val / 2) + w.val % 2 = w.val; omega)

/-- What all the cores carry is what all the tiles carry. -/
theorem cores_tiles (Φ : Fin 32 → sProp 𝕄) :
    (bigSep Finset.univ fun c : Fin 2 => bigSep Finset.univ fun i : Fin 16 => Φ (tileNo c i)) = bigSep Finset.univ Φ := by
  rw [bigSep_univ_equiv tileEquiv Φ, bigSep_univ_prod]
  rfl

/-- What is left of the words and of the table while the tiles read. -/
def readRest (d : Dev nD) : sProp 𝕄 :=
  iprop((iLoc d ↦{restShare fullShare 32} words m d) ∗ (tLoc d ↦{restShare fullShare 32} tabOf m d))

/-- An array of rows is the tiles' blocks of it, -/
theorem rows_split (d : Dev nD) (g : Buf (Elt F) (gLoc d)) :
    (gLoc d ↦{fullShare} g : sProp 𝕄) = bigSep Finset.univ fun w : Fin 32 => gLoc d ↦[gSet w]{fullShare} g := by
  rw [← pointsTo_biUnion (ℓ := gLoc d) (q := fullShare) (f := g) (Finset.univ : Finset (Fin 32)) gSet gSet_disjoint]
  exact congrArg (fun s => (gLoc d ↦[s]{fullShare} g : sProp 𝕄)) gSet_cover.symm

/-- and an array of sums. -/
theorem sums_split (d : Dev nD) (g : Buf (Elt F) (pLoc d)) :
    (pLoc d ↦{fullShare} g : sProp 𝕄) = bigSep Finset.univ fun w : Fin 32 => pLoc d ↦[pSet w]{fullShare} g := by
  rw [← pointsTo_biUnion (ℓ := pLoc d) (q := fullShare) (f := g) (Finset.univ : Finset (Fin 32)) pSet pSet_disjoint]
  exact congrArg (fun s => (pLoc d ↦[s]{fullShare} g : sProp 𝕄)) pSet_cover.symm

/-- The four arrays at the start of the call: the cores' parts and the rest of the two that are only read. -/
theorem call_in (d : Dev nD) :
    iprop((iLoc d ↦{fullShare} words m d) ∗ (tLoc d ↦{fullShare} tabOf m d) ∗ (gLoc d ↦{fullShare} m (gLoc d)) ∗ (pLoc d ↦{fullShare} m (pLoc d)))
      ⊢ (iprop((bigSep Finset.univ fun c : Fin ((K (F := F)).nCore 0) => (P m).st 0 d c) ∗ readRest m d) : sProp 𝕄) := by
  have e : (bigSep Finset.univ fun c : Fin ((K (F := F)).nCore 0) => (P m).st 0 d c) = (bigSep Finset.univ (tileIn m d) : sProp 𝕄) :=
    cores_tiles (tileIn m d)
  rw [e, readShare_split (ℓ := iLoc d) (words m d) fullShare 32, readShare_split (ℓ := tLoc d) (tabOf m d) fullShare 32, rows_split, sums_split]
  unfold tileIn readRest
  simp only [bigSep_sep']
  iintro ⟨⟨Hi, Hi'⟩, ⟨Ht, Ht'⟩, Hg, Hp⟩
  isplitl [Hi Ht Hg Hp]
  · isplitl [Hi]; · iexact Hi
    isplitl [Ht]; · iexact Ht
    isplitl [Hg]; · iexact Hg
    iexact Hp
  isplitl [Hi']; · iexact Hi'
  iexact Ht'

/-- And at its end: the four arrays whole, the two results written. -/
theorem call_out (d : Dev nD) :
    (iprop((bigSep Finset.univ fun c : Fin ((K (F := F)).nCore 0) => (P m).dn 0 d c) ∗ readRest m d) : sProp 𝕄)
      ⊢ iprop((iLoc d ↦{fullShare} words m d) ∗ (tLoc d ↦{fullShare} tabOf m d)
          ∗ (gLoc d ↦{fullShare} rowsOut (words m d) (tabOf m d)) ∗ (pLoc d ↦{fullShare} sumsOut (words m d) (tabOf m d))) := by
  have e : (bigSep Finset.univ fun c : Fin ((K (F := F)).nCore 0) => (P m).dn 0 d c) = (bigSep Finset.univ (tileOut m d) : sProp 𝕄) :=
    cores_tiles (tileOut m d)
  rw [e, readShare_split (ℓ := iLoc d) (words m d) fullShare 32, readShare_split (ℓ := tLoc d) (tabOf m d) fullShare 32, rows_split, sums_split]
  unfold tileOut readRest
  simp only [bigSep_sep']
  iintro ⟨⟨Hi, Ht, Hg, Hp⟩, Hi', Ht'⟩
  isplitl [Hi Hi']
  · isplitl [Hi]; · iexact Hi
    iexact Hi'
  isplitl [Ht Ht']
  · isplitl [Ht]; · iexact Ht
    iexact Ht'
  isplitl [Hg]; · iexact Hg
  iexact Hp

end Cert.Proof.Sc
end
-- ==== Proof.Dense.lean ====
/-
  The dense layers' kernel on one block.
-/
module

public import proofs.«01_k».proof.Proof.Launch
public import proofs.«01_k».proof.Proof.Gen.KernelIdeal.Launch
public import proofs.«01_k».proof.Proof.Gen.KernelIdeal.Points
public import Idealize.ShloMosaic.Lib.Pipeline.RegionArrays
public import Idealize.ShloMosaic.Lib.Pipeline.FrameBody
public import Idealize.ShloMosaic.Lib.VecWindow

@[expose] public section

noncomputable section

namespace Cert.Proof.Sc

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

/-- What the kernel writes to its block of the result at grid point `i`, from the blocks it reads. -/
def denseOut (i : grid1.Coords) (x0 x1 : Vec F S1024x128 .f32) (x2 : Vec F S32x128 .f32) (x3 : Vec F S64x256 .f32) (x4 : Vec F S1x256 .f32)
    (x5 : Vec F S256x128 .f32) (x6 : Vec F S1x128 .f32) : FVec F S1024x128 .f32 :=
  k1_pay1 (k1_pay2 i x0 x1 x2 x3 x4) k1_pay3 x6 x5

/-- A store of a whole two-dimensional buffer is what is read back. -/
theorem read_store_full {s : Shape} {sp : Space} {e : EltTy} {κ : Kind} (v : View sig κ sp s e) (f : v.ty.Contents (Elt F)) {off : Fin s.rank → ℕ}
    (inb : ∀ a, off a + s.size a ≤ s.size a) (w : s.Idx → Elt F e) :
    v.read (Elt F) ((v.slice (Rect.unit off s.size inb)).write (Elt F) f w Finset.univ) = w := by
  funext y
  have hy : (Rect.unit off s.size inb).emb y = y := Rect.emb_unit_full inb y
  conv_lhs => rw [← hy]
  rw [View.read_slice_write_emb _ _ _ (Finset.mem_univ _)]

/-- The kernel's body: it reads its seven blocks and leaves its result's. -/
theorem dense_body (c : Dev nD) (i : grid1.Coords) (arg1 : Memref sig .tc .vmem S1024x128 .f32) (h1 : arg1.IsWhole) (arg2 : Memref sig .tc .vmem S1024x128 .f32) (h2 : arg2.IsWhole)
    (arg3 : Memref sig .tc .vmem S32x128 .f32) (h3 : arg3.IsWhole) (arg4 : Memref sig .tc .vmem S64x256 .f32) (h4 : arg4.IsWhole)
    (arg5 : Memref sig .tc .vmem S1x256 .f32) (h5 : arg5.IsWhole) (arg6 : Memref sig .tc .vmem S256x128 .f32) (h6 : arg6.IsWhole)
    (arg7 : Memref sig .tc .vmem S1x128 .f32) (h7 : arg7.IsWhole) (arg8 : Memref sig .tc .vmem S1024x128 .f32) (h8 : arg8.IsWhole)
    (x0 x1 : Vec F S1024x128 .f32) (x2 : Vec F S32x128 .f32) (x3 : Vec F S64x256 .f32) (x4 : Vec F S1x256 .f32)
    (x5 : Vec F S256x128 .f32) (x6 : Vec F S1x128 .f32) (R : sProp 𝕄) :
    iprop(R ∗ owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ y, owns (c : Thread nD τ) arg8 fullShare y))
      ⊢ wp (M := 𝕄) frame (wpE (defs₀ (F := F)) 𝒱₀ (c : Thread nD τ) none) Set.univ
          (cc1__mlp_body i arg1 h1 arg2 h2 arg3 h3 arg4 h4 arg5 h5 arg6 h6 arg7 h7 arg8 h8)
          fun _ => iprop(R ∗ owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (denseOut i x0 x1 x2 x3 x4 x5 x6)) := by
  simp -proj only [cc1__mlp_body_eq_skeleton, cc1__mlp_body_skel, k1_part1_eq_skeleton, k1_part1_skel]
  unfold owns
  iintro ⟨HR, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%y, %f7, -, H7⟩⟩
  subst e0 e1 e2 e3 e4 e5 e6
  sl_exec
  sl_step
  isplitl [HR]; · iexact HR
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr; swap; · iexact H7
  ipureintro
  refine (read_store_full (F := F) arg8.view f7 inb_S1024x128_S1024x128_0_0 _).trans ?_
  unfold denseOut
  have r0 := View.readAt_full (Val := Elt F) arg1.view f0 inb_S1024x128_S1024x128_0_0
  have r1 := View.readAt_full (Val := Elt F) arg2.view f1 inb_S1024x128_S1024x128_0_0
  have r2 := View.readAt_full (Val := Elt F) arg3.view f2 inb_S32x128_S32x128_0_0
  have r3 := View.readAt_full (Val := Elt F) arg4.view f3 inb_S64x256_S64x256_0_0
  have r4 := View.readAt_full (Val := Elt F) arg5.view f4 inb_S1x256_S1x256_0_0
  have r5 := View.readAt_full (Val := Elt F) arg6.view f5 inb_S256x128_S256x128_0_0
  have r6 := View.readAt_full (Val := Elt F) arg7.view f6 inb_S1x128_S1x128_0_0
  rw [← r0, ← r1, ← r2, ← r3, ← r4, ← r5, ← r6]

end Cert.Proof.Sc
end
-- ==== Proof.Region.lean ====
/-
  The dense layers' region: the grid over the sixteen blocks of rows, entered from the arrays the host operations leave.
-/
module

public import proofs.«01_k».proof.Proof.Dense

@[expose] public section

noncomputable section

namespace Cert.Proof.Sc

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

variable (V : Dev nD → Valuation τ sig (Elt F)) (b : ℕ)

/-- The block of window `w`'s array at grid point `t`. -/
def blkOf (c : Dev nD) (w : Fin 8) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The pipeline's data: the arrays as the region finds them, the inputs' blocks left in place, the result's block computed
    from them, nothing owed. -/
def dats (_ : Fin 1) (c : Dev nD) : Dat τ (Elt F) (HIx 1) ℕ UU ℕ cfg1 c where
  A w := V c (Proc.devRef .tc (Pipeline.arrRef spec1 w))
  after w t := match w with
    | 0 => blkOf V c 0 t | 1 => blkOf V c 1 t | 2 => blkOf V c 2 t | 3 => blkOf V c 3 t
    | 4 => blkOf V c 4 t | 5 => blkOf V c 5 t | 6 => blkOf V c 6 t
    | 7 => denseOut (grid1.coords t) (blkOf V c 0 t) (blkOf V c 1 t) (blkOf V c 2 t) (blkOf V c 3 t) (blkOf V c 4 t) (blkOf V c 5 t) (blkOf V c 6 t)
  Φ _ := iprop(emp)
  q _ := fullShare
  owed _ := 0
  recorded _ := {p | (K (F := F)).lev ((c : Thread nD τ), p.1) p.2 ≤ b}

theorem before0 (c : Dev nD) (t : Fin cfg1.N) (d) : (dats V b 0 c).before 0 t d = blkOf V c 0 t :=
  (dats V b 0 c).before_in_eq_fetched 0 rfl (fun _ => rfl) (fun _ _ _ => rfl) (fun _ => rfl) t d
theorem before1 (c : Dev nD) (t : Fin cfg1.N) (d) : (dats V b 0 c).before 1 t d = blkOf V c 1 t :=
  (dats V b 0 c).before_in_eq_fetched 1 rfl (fun _ => rfl) (fun _ _ _ => rfl) (fun _ => rfl) t d
theorem before2 (c : Dev nD) (t : Fin cfg1.N) (d) : (dats V b 0 c).before 2 t d = blkOf V c 2 t :=
  (dats V b 0 c).before_in_eq_fetched 2 rfl (fun _ => rfl) (fun _ _ _ => rfl) (fun _ => rfl) t d
theorem before3 (c : Dev nD) (t : Fin cfg1.N) (d) : (dats V b 0 c).before 3 t d = blkOf V c 3 t :=
  (dats V b 0 c).before_in_eq_fetched 3 rfl (fun _ => rfl) (fun _ _ _ => rfl) (fun _ => rfl) t d
theorem before4 (c : Dev nD) (t : Fin cfg1.N) (d) : (dats V b 0 c).before 4 t d = blkOf V c 4 t :=
  (dats V b 0 c).before_in_eq_fetched 4 rfl (fun _ => rfl) (fun _ _ _ => rfl) (fun _ => rfl) t d
theorem before5 (c : Dev nD) (t : Fin cfg1.N) (d) : (dats V b 0 c).before 5 t d = blkOf V c 5 t :=
  (dats V b 0 c).before_in_eq_fetched 5 rfl (fun _ => rfl) (fun _ _ _ => rfl) (fun _ => rfl) t d
theorem before6 (c : Dev nD) (t : Fin cfg1.N) (d) : (dats V b 0 c).before 6 t d = blkOf V c 6 t :=
  (dats V b 0 c).before_in_eq_fetched 6 rfl (fun _ => rfl) (fun _ _ _ => rfl) (fun _ => rfl) t d

/-- The body's obligation at every grid point. -/
theorem body_obligation (c : Dev nD) : BodyObligation (dats V b 0 c) (defs₀ (F := F)) 𝒱₀ (none : HIx 1) Set.univ := fun t => by
  rw [bigSep_W1, bigSep_W1]
  refine BI.Entails.trans ?_ ((dense_body (F := F) c (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (win1_3.stage (cfg1.slots t 3)) (hstage1_3 ((cfg1.slots t 3).cast nbuf1_3)) (win1_4.stage (cfg1.slots t 4)) (hstage1_4 ((cfg1.slots t 4).cast nbuf1_4))
    (win1_5.stage (cfg1.slots t 5)) (hstage1_5 ((cfg1.slots t 5).cast nbuf1_5)) (win1_6.stage (cfg1.slots t 6)) (hstage1_6 ((cfg1.slots t 6).cast nbuf1_6))
    (win1_7.stage (cfg1.slots t 7)) (hstage1_7 ((cfg1.slots t 7).cast nbuf1_7))
    (blkOf V c 0 t) (blkOf V c 1 t) (blkOf V c 2 t) (blkOf V c 3 t) (blkOf V c 4 t) (blkOf V c 5 t) (blkOf V c 6 t)
    ((dats V b 0 c).owesAt (none : HIx 1) t.castSucc)).trans (wp_mono frame _ _ fun _ => ?_))
  · have e0 := before0 V b c t; have e1 := before1 V b c t; have e2 := before2 V b c t; have e3 := before3 V b c t
    have e4 := before4 V b c t; have e5 := before5 V b c t; have e6 := before6 V b c t
    simp only [e0, e1, e2, e3, e4, e5, e6]
    show _ ⊢ (_ : sProp 𝕄)
    iintro ⟨-, HO, ⟨%d0, H0⟩, ⟨%d1, H1⟩, ⟨%d2, H2⟩, ⟨%d3, H3⟩, ⟨%d4, H4⟩, ⟨%d5, H5⟩, ⟨%d6, H6⟩, ⟨%d7, H7⟩⟩
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · rw [show (dats V b 0 c).Φ t.succ = iprop(emp) from rfl]
    show _ ⊢ (_ : sProp 𝕄)
    iintro ⟨HO, H0, H1, H2, H3, H4, H5, H6, H7⟩
    isplitr; · iempintro
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The result array after the grid. -/
def outArr (c : Dev nD) : S16384x128.Idx → F .f32 := (dats V b 0 c).arrAt 7 cfg1.N

/-- The arrays after the region: the result's written, the others as they were. -/
def Vout (c : Dev nD) : Valuation τ sig (Elt F) := Function.update (V c) (Proc.devRef .tc main_v20) (outArr V b c)

theorem Vout_v20 (c : Dev nD) : Vout V b c (Proc.devRef .tc main_v20) = outArr V b c := Function.update_self _ _ _
theorem Vout_ne (c : Dev nD) {r : DevRef τ sig} (h : r ≠ Proc.devRef .tc main_v20) : Vout V b c r = V c r := Function.update_of_ne h _ _

abbrev adm : (p : Fin 1) → (pcfgs (F := F) p).Adm := fun p => (cfgs p).toPCfg_adm

theorem arrAt_zero (c : Dev nD) (w : Fin 8) : (dats V b 0 c).arrAt w 0 = V c (Proc.devRef .tc (Pipeline.arrRef spec1 w)) := rfl

theorem arrAt_end (c : Dev nD) (w : Fin 8) : (dats V b 0 c).arrAt w cfg1.N = Vout V b c (Proc.devRef .tc (Pipeline.arrRef spec1 w)) := by
  fin_cases w
  case «7» => exact (Vout_v20 V b c).symm
  all_goals exact ((dats V b 0 c).arrAt_in _ rfl _).trans (Vout_ne V b c (StableHlo.devRef_ne_of_ne (by decide))).symm

/-- What the region is entered from and left to, beside its arrays: nothing owed, the waits recorded below a level. -/
def idleBelow (c : Dev nD) : sProp 𝕄 :=
  iprop(∃ W, ⌜(K (F := F)).WBelow (c : Thread nD τ) W b⌝ ∗ owes (c : Thread nD τ) (0 : CellTallies nD τ sig (HIx 1)) W)

theorem idle_in (c : Dev nD) (t) : idleBelow (F := F) b c ⊢ (dats V b 0 c).owesAt (none : HIx 1) t := by
  unfold idleBelow Pipeline.Dat.owesAt Pipeline.owesWithin
  iintro ⟨%W, %hW, HO⟩; iexists W; isplitr
  · ipureintro; exact fun p hp => Or.inl (hW p hp)
  iexact HO

theorem idle_out (c : Dev nD) (t) : (dats V b 0 c).owesAt (none : HIx 1) t ⊢ idleBelow (F := F) b c := by
  unfold idleBelow Pipeline.Dat.owesAt Pipeline.owesWithin
  iintro ⟨%W, %hW, HO⟩; iexists W; isplitr
  · ipureintro
    intro p hp
    rcases hW hp with h | ⟨w, s, rfl⟩
    · exact h
    · exact (le_of_eq (SparseCore.Cfg.lev_none _ _)).trans (Nat.zero_le _)
  iexact HO

/-- The eight arrays, as device buffers. -/
abbrev arrs : Finset (DevRef τ sig) := Pipeline.arrRefs (τ := τ) spec1

set_option backward.isDefEq.respectTransparency.types false in
/-- The region, entered from the eight arrays and left to them, the result's written. -/
def reg : Pipeline.RegionSeg (pcfgs (F := F)) adm (dats V b) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V b c).loose
  hwaits := Pipeline.hwaits_of_owed_zero _ _ _ _ _ _ 0 fun _ _ => rfl
  pre c := iprop(StableHlo.held (c : Thread nD τ) arrs (V c) ∗ idleBelow (F := F) b c)
  post c := iprop(StableHlo.held (c : Thread nD τ) arrs (Vout V b c) ∗ idleBelow (F := F) b c)
  X _ := iprop(emp)
  Y _ := iprop(emp)
  Z _ := iprop(emp)
  hentry c := by
    rw [← Pipeline.arrays_held (pcfgs (F := F)) adm (dats V b) 0 launch1.toP c ((dats V b 0 c).share_full fun _ => rfl) ((dats V b 0 c).arrAt · 0) (V c) (arrAt_zero V b c),
      Pipeline.prefHeld_of_none _ rfl]
    have h := idle_in V b c 0
    iintro ⟨⟨Ha, HO⟩, -, -⟩
    imodintro
    isplitl [Ha]; · iexact Ha
    isplitr; · iempintro
    isplitl [HO]; · iapply h; iexact HO
    isplitr <;> iempintro
  hin c := by
    rw [show (dats V b 0 c).Φ 0 = iprop(emp) from rfl]
    iintro -; iempintro
  hout c := by
    rw [Pipeline.ownSems0_none, show Pipeline.scopedRest (pcfgs (F := F) 0).spec c = BI.emp from scopedRest1_eq c]
    iintro -
    isplitr; · iempintro
    isplitr <;> iempintro
  hexit c := by
    rw [← Pipeline.arrays_held (pcfgs (F := F)) adm (dats V b) 0 launch1.toP c ((dats V b 0 c).share_full fun _ => rfl) ((dats V b 0 c).arrAt · cfg1.N) (Vout V b c) (arrAt_end V b c)]
    have h := idle_out V b c (Fin.last cfg1.N)
    iintro ⟨Ha, HO, -, -⟩
    imodintro
    isplitl [Ha]; · iexact Ha
    iapply h; iexact HO

/-- The region's step: the call of the kernel, from its arrays and the pipeline's ghost state. -/
theorem region_wp (c : Dev nD) :
    iprop(boundary (c : Thread nD τ) ∗ StableHlo.held (c : Thread nD τ) arrs (V c) ∗ idleBelow (F := F) b c
        ∗ levAts (K (F := F)).L (K (F := F)).lev
        ∗ Pipeline.cellsGhost (Pipeline.pin (pcfgs (F := F)) adm) (EP (F := F)) 0 c ∗ Pipeline.toksInit (Pipeline.pin (pcfgs (F := F)) adm) (EP (F := F)) 0 c)
      ⊢ wp (M := 𝕄) frame (wpE (D (F := F)) 𝒱 (c : Thread nD τ) none) Set.univ
          (Prog.lift (.customCall (Pipeline.entry 0) ()))
          fun _ => iprop(boundary (c : Thread nD τ) ∗ StableHlo.held (c : Thread nD τ) arrs (Vout V b c) ∗ idleBelow (F := F) b c) := by
  have h := Pipeline.RegionSeg.wp (pcfgs (F := F)) adm (dats V b) (none : HIx 1) cellOf_inj (EP (F := F)) defs₀ 𝒱₀ (K (F := F)).L (K (F := F)).lev
    (reg V b) c none (fun _ h => nomatch h) (fun x : PUnit => Prog.ret x)
    (fun _ => iprop(boundary (c : Thread nD τ) ∗ StableHlo.held (c : Thread nD τ) arrs (Vout V b c) ∗ idleBelow (F := F) b c))
  rw [show (reg V b).post c = iprop(StableHlo.held (c : Thread nD τ) arrs (Vout V b c) ∗ idleBelow (F := F) b c) from rfl,
    show (reg V b).pre c = iprop(StableHlo.held (c : Thread nD τ) arrs (V c) ∗ idleBelow (F := F) b c) from rfl] at h
  iintro ⟨Hb, Ha, HO, Hl, Hg, Ht⟩
  iapply h
  isplitr
  · iintro ⟨Hb, Ha, HO⟩
    rw [wp_ret]
    imodintro
    isplitl [Hb]; · iexact Hb
    isplitl [Ha]; · iexact Ha
    iexact HO
  isplitl [Hb]; · iexact Hb
  isplitl [Ha HO]
  · isplitl [Ha]; · iexact Ha
    iexact HO
  isplitl [Hl]; · iexact Hl
  isplitl [Hg]; · iexact Hg
  iexact Ht

end Cert.Proof.Sc
end
-- ==== Proof.Host.lean ====
/-
  `@main` as a straight line of host operations, the SparseCore call, a second line, the dense layers, and the last slice;
  and the run of it.
-/
module

public import proofs.«01_k».proof.Proof.Payload
public import proofs.«01_k».proof.Proof.Region

@[expose] public section

noncomputable section

namespace Cert.Proof.Sc

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-! ## The lines -/

/-- Before the SparseCore call: the table's rows paired. -/
def opsA : List (HloOp τ sig (Elt F)) := [StableHlo.reshape main_arg2 main_v0 (rfl : (.f32 : EltTy) = .f32) shapeCasts_S1000000x64_S500000x128]

/-- Between the two calls: the parities, the transposed weights, the padded second layer. -/
def opsB : List (HloOp τ sig (Elt F)) :=
  [StableHlo.reshape main_v1_1 main_v2 (rfl : (.f32 : EltTy) = .f32) shapeCasts_S4096_S32x128,
    StableHlo.unary main_arg0 main_v3 ((extractStridedSlice S16384 ![0] · slices_S819200_S16384_0) : (⟨S819200, .i32⟩ : BufTy).Contents (Elt F) → (⟨S16384, .i32⟩ : BufTy).Contents (Elt F)),
    StableHlo.nullary main_c (constantI S_ 32 1#32),
    StableHlo.unary main_c main_v4 (broadcastInDim S16384 ![] bcast_S_S16384 : (⟨S_, .i32⟩ : BufTy).Contents (Elt F) → (⟨S16384, .i32⟩ : BufTy).Contents (Elt F)),
    StableHlo.binary main_v3 main_v4 main_v5 (andi : (⟨S16384, .i32⟩ : BufTy).Contents (Elt F) → (⟨S16384, .i32⟩ : BufTy).Contents (Elt F) → (⟨S16384, .i32⟩ : BufTy).Contents (Elt F)),
    StableHlo.unary main_v5 main_v6 (sitofp .f32 : (⟨S16384, .i32⟩ : BufTy).Contents (Elt F) → (⟨S16384, .f32⟩ : BufTy).Contents (Elt F)),
    StableHlo.unary main_v6 main_v7 (broadcastInDim S16384x1 ![0] bcast_S16384_S16384x1_0 : (⟨S16384, .f32⟩ : BufTy).Contents (Elt F) → (⟨S16384x1, .f32⟩ : BufTy).Contents (Elt F)),
    StableHlo.unary main_v7 main_v8 (broadcastInDim S16384x128 ![0, 1] bcast_S16384x1_S16384x128_0_1 : (⟨S16384x1, .f32⟩ : BufTy).Contents (Elt F) → (⟨S16384x128, .f32⟩ : BufTy).Contents (Elt F)),
    StableHlo.unary main_arg3 main_v9 ((transpose S64x256 [1, 0] · transposes_S256x64_S64x256_1_0) : (⟨S256x64, .f32⟩ : BufTy).Contents (Elt F) → (⟨S64x256, .f32⟩ : BufTy).Contents (Elt F)),
    StableHlo.reshape main_arg4 main_v10 (rfl : (.f32 : EltTy) = .f32) shapeCasts_S256_S1x256,
    StableHlo.nullary main_cst (constant S_ .f32 0x00000000#32),
    StableHlo.unary main_cst main_v11 (broadcastInDim S256x128 ![] bcast_S_S256x128 : (⟨S_, .f32⟩ : BufTy).Contents (Elt F) → (⟨S256x128, .f32⟩ : BufTy).Contents (Elt F)),
    StableHlo.unary main_arg5 main_v12 ((transpose S256x2 [1, 0] · transposes_S2x256_S256x2_1_0) : (⟨S2x256, .f32⟩ : BufTy).Contents (Elt F) → (⟨S256x2, .f32⟩ : BufTy).Contents (Elt F)),
    StableHlo.nullary main_c_0 (constantI S_ 32 0#32),
    StableHlo.unary main_c_0 main_v13 (broadcastInDim S1 ![] bcast_S_S1 : (⟨S_, .i32⟩ : BufTy).Contents (Elt F) → (⟨S1, .i32⟩ : BufTy).Contents (Elt F)),
    StableHlo.ternary main_v11 main_v13 main_v12 main_v14 ((fun x i u => Host.scatter scatter_S256x128_S1_S256x2_01_n_1_0 (fun _ b => b) x i u) : (⟨S256x128, .f32⟩ : BufTy).Contents (Elt F) → (⟨S1, .i32⟩ : BufTy).Contents (Elt F) → (⟨S256x2, .f32⟩ : BufTy).Contents (Elt F) → (⟨S256x128, .f32⟩ : BufTy).Contents (Elt F)),
    StableHlo.nullary main_cst_1 (constant S_ .f32 0x00000000#32),
    StableHlo.unary main_cst_1 main_v15 (broadcastInDim S1x128 ![] bcast_S_S1x128 : (⟨S_, .f32⟩ : BufTy).Contents (Elt F) → (⟨S1x128, .f32⟩ : BufTy).Contents (Elt F)),
    StableHlo.nullary main_c_2 (constantI S_ 32 0#32),
    StableHlo.unary main_c_2 main_v16 (broadcastInDim S1 ![] bcast_S_S1 : (⟨S_, .i32⟩ : BufTy).Contents (Elt F) → (⟨S1, .i32⟩ : BufTy).Contents (Elt F)),
    StableHlo.nullary main_c_3 (constantI S_ 32 0#32),
    StableHlo.unary main_c_3 main_v17 (broadcastInDim S1 ![] bcast_S_S1 : (⟨S_, .i32⟩ : BufTy).Contents (Elt F) → (⟨S1, .i32⟩ : BufTy).Contents (Elt F)),
    StableHlo.binary main_v16 main_v17 main_v18 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v15 main_v18 main_arg6 main_v19 ((fun x i u => Host.scatter scatter_S1x128_S2_S2_0_0_01_0 (fun _ b => b) x i u) : (⟨S1x128, .f32⟩ : BufTy).Contents (Elt F) → (⟨S2, .i32⟩ : BufTy).Contents (Elt F) → (⟨S2, .f32⟩ : BufTy).Contents (Elt F) → (⟨S1x128, .f32⟩ : BufTy).Contents (Elt F))]

/-- After them: the two classes' columns. -/
def opsC : List (HloOp τ sig (Elt F)) := [StableHlo.unary main_v20 main_v21 ((extractStridedSlice S16384x2 ![0, 0] · slices_S16384x128_S16384x2_0_0) : (⟨S16384x128, .f32⟩ : BufTy).Contents (Elt F) → (⟨S16384x2, .f32⟩ : BufTy).Contents (Elt F))]

/-- The program in those parts. -/
theorem main_parts (d : Dev nD) : main (F := F) d = (StableHlo.seq opsA >>= fun _ => (K (F := F)).run d 0 >>= fun _ => StableHlo.seq opsB >>= fun _ =>
    SparseCore.liftProg (Prog.lift (.customCall (Pipeline.entry 0) ())) >>= fun _ => StableHlo.seq opsC >>= fun _ => pure ⟨⟩) := by
  simp only [main, opsA, opsB, opsC, StableHlo.seq, bind_assoc, pure_bind]
  rfl

theorem opsA_bufs : (opsA : List (HloOp τ sig (Elt F))).Forall fun op => op.bufs ⊆ StableHlo.tcRefs τ sig :=
  StableHlo.reshape_bufs_sub ..
theorem opsA_fresh' : (opsA : List (HloOp τ sig (Elt F))).Forall fun op => op.fresh = ∅ :=
  rfl
theorem opsA_sub : ∀ op ∈ opsA (F := F), op.bufs ⊆ Pipeline.ucRefs τ sig := fun op h => Pipeline.sub_ucRefs op (List.forall_iff_forall_mem.mp opsA_bufs op h)
theorem opsA_fresh : ∀ op ∈ opsA (F := F), op.fresh = ∅ := List.forall_iff_forall_mem.mp opsA_fresh'

theorem opsB_bufs : (opsB : List (HloOp τ sig (Elt F))).Forall fun op => op.bufs ⊆ StableHlo.tcRefs τ sig :=
  ⟨StableHlo.reshape_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.reshape_bufs_sub .., StableHlo.nullary_bufs_sub .., StableHlo.unary_bufs_sub .., StableHlo.unary_bufs_sub .., StableHlo.nullary_bufs_sub .., StableHlo.unary_bufs_sub .., StableHlo.ternary_bufs_sub .., StableHlo.nullary_bufs_sub .., StableHlo.unary_bufs_sub .., StableHlo.nullary_bufs_sub .., StableHlo.unary_bufs_sub .., StableHlo.nullary_bufs_sub .., StableHlo.unary_bufs_sub .., StableHlo.binary_bufs_sub .., StableHlo.ternary_bufs_sub ..⟩
theorem opsB_fresh' : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
theorem opsB_sub : ∀ op ∈ opsB (F := F), op.bufs ⊆ Pipeline.ucRefs τ sig := fun op h => Pipeline.sub_ucRefs op (List.forall_iff_forall_mem.mp opsB_bufs op h)
theorem opsB_fresh : ∀ op ∈ opsB (F := F), op.fresh = ∅ := List.forall_iff_forall_mem.mp opsB_fresh'

theorem opsC_bufs : (opsC : List (HloOp τ sig (Elt F))).Forall fun op => op.bufs ⊆ StableHlo.tcRefs τ sig :=
  StableHlo.unary_bufs_sub ..
theorem opsC_fresh' : (opsC : List (HloOp τ sig (Elt F))).Forall fun op => op.fresh = ∅ :=
  rfl
theorem opsC_sub : ∀ op ∈ opsC (F := F), op.bufs ⊆ Pipeline.ucRefs τ sig := fun op h => Pipeline.sub_ucRefs op (List.forall_iff_forall_mem.mp opsC_bufs op h)
theorem opsC_fresh : ∀ op ∈ opsC (F := F), op.fresh = ∅ := List.forall_iff_forall_mem.mp opsC_fresh'

/-! ## The arrays through the run -/

variable (m : (ℓ : Loc nD τ sig) → Buf (Elt F) ℓ)

abbrev uc : Finset (DevRef τ sig) := Pipeline.ucRefs τ sig

/-- At the launch, -/
def V0 (d : Dev nD) : Valuation τ sig (Elt F) := fun b => m (d, b)
/-- after the first line, -/
def V1 (d : Dev nD) : Valuation τ sig (Elt F) := StableHlo.after opsA (V0 m d)
/-- after the SparseCore call, -/
def V2 (d : Dev nD) : Valuation τ sig (Elt F) :=
  Function.update (Function.update (V1 m d) (Proc.devRef .tc main_v1_0) (rowsOut (words m d) (tabOf m d)))
    (Proc.devRef .tc main_v1_1) (sumsOut (words m d) (tabOf m d))
/-- after the second line, -/
def V3 (d : Dev nD) : Valuation τ sig (Elt F) := StableHlo.after opsB (V2 m d)
/-- The level below which the TensorCore's recorded waits lie once the call has ended. -/
def endLev : ℕ := 8 * SparseCore.Cfg.Blocks.fst 1 1 1
/-- after the dense layers, -/
def V4 (d : Dev nD) : Valuation τ sig (Elt F) := Vout (V3 m) endLev d
/-- and at the end. -/
def V5 (d : Dev nD) : Valuation τ sig (Elt F) := StableHlo.after opsC (V4 m d)

/-- The four arrays the call takes. -/
def callRefs : Finset (DevRef τ sig) :=
  {Proc.devRef .tc main_arg0, Proc.devRef .tc main_v0, Proc.devRef .tc main_v1_0, Proc.devRef .tc main_v1_1}

theorem uc_mem {r : Ref sig .tc} (h : r.isScoped = false) : (Proc.devRef .tc r : DevRef τ sig) ∈ uc :=
  Finset.mem_filter.mpr ⟨Finset.mem_map.mpr ⟨r, Finset.mem_univ _, rfl⟩, by
    intro h'; exact Bool.false_ne_true (h.symm.trans h')⟩

theorem callRefs_sub : callRefs ⊆ uc := by
  intro b hb
  simp only [callRefs, Finset.mem_insert, Finset.mem_singleton] at hb
  rcases hb with rfl | rfl | rfl | rfl <;> exact uc_mem (by decide)

theorem held_call (d : Dev nD) (W : Valuation τ sig (Elt F)) :
    (StableHlo.held (d : Thread nD τ) callRefs W : sProp 𝕄) = iprop((iLoc d ↦{fullShare} W (Proc.devRef .tc main_arg0))
      ∗ (tLoc d ↦{fullShare} W (Proc.devRef .tc main_v0)) ∗ (gLoc d ↦{fullShare} W (Proc.devRef .tc main_v1_0))
      ∗ (pLoc d ↦{fullShare} W (Proc.devRef .tc main_v1_1))) := by
  have n01 : (Proc.devRef .tc main_arg0 : DevRef τ sig) ≠ Proc.devRef .tc main_v0 := StableHlo.devRef_ne_of_ne (by decide)
  have n02 : (Proc.devRef .tc main_arg0 : DevRef τ sig) ≠ Proc.devRef .tc main_v1_0 := StableHlo.devRef_ne_of_ne (by decide)
  have n03 : (Proc.devRef .tc main_arg0 : DevRef τ sig) ≠ Proc.devRef .tc main_v1_1 := StableHlo.devRef_ne_of_ne (by decide)
  have n12 : (Proc.devRef .tc main_v0 : DevRef τ sig) ≠ Proc.devRef .tc main_v1_0 := StableHlo.devRef_ne_of_ne (by decide)
  have n13 : (Proc.devRef .tc main_v0 : DevRef τ sig) ≠ Proc.devRef .tc main_v1_1 := StableHlo.devRef_ne_of_ne (by decide)
  have n23 : (Proc.devRef .tc main_v1_0 : DevRef τ sig) ≠ Proc.devRef .tc main_v1_1 := StableHlo.devRef_ne_of_ne (by decide)
  unfold StableHlo.held callRefs
  rw [SparseCore.bigSep_insert' (by simp only [Finset.mem_insert, Finset.mem_singleton]; tauto),
    SparseCore.bigSep_insert' (by simp only [Finset.mem_insert, Finset.mem_singleton]; tauto),
    SparseCore.bigSep_insert' (by simp only [Finset.mem_singleton]; tauto), bigSep_singleton]

theorem V1_ne (d : Dev nD) {r : Ref sig .tc} (h : r ≠ main_v0) : V1 m d (Proc.devRef .tc r) = m ((SparseCore.T d).loc r) := by
  have hr : (Proc.devRef .tc r : DevRef τ sig) ≠ Proc.devRef .tc main_v0 := StableHlo.devRef_ne_of_ne h
  refine StableHlo.after_of_forall_not_mem _ _ fun op ho => ?_
  simp only [opsA, List.mem_cons, List.not_mem_nil, or_false] at ho
  subst ho
  intro hm
  exact hr (Finset.mem_singleton.mp hm)

theorem V1_v0 (d : Dev nD) : V1 m d (Proc.devRef .tc main_v0) = tabOf m d := by
  unfold V1 opsA tabOf
  after_results
  rfl

theorem V2_ne (d : Dev nD) {b : DevRef τ sig} (h0 : b ≠ Proc.devRef .tc main_v1_0) (h1 : b ≠ Proc.devRef .tc main_v1_1) :
    V2 m d b = V1 m d b := (Function.update_of_ne h1 _ _).trans (Function.update_of_ne h0 _ _)
theorem V2_rows (d : Dev nD) : V2 m d (Proc.devRef .tc main_v1_0) = rowsOut (words m d) (tabOf m d) :=
  (Function.update_of_ne (StableHlo.devRef_ne_of_ne (by decide)) _ _).trans (Function.update_self _ _ _)
theorem V2_sums (d : Dev nD) : V2 m d (Proc.devRef .tc main_v1_1) = sumsOut (words m d) (tabOf m d) := Function.update_self _ _ _

theorem V1_words (d : Dev nD) : V1 m d (Proc.devRef .tc main_arg0) = words m d := V1_ne m d (by decide)

/-- The launch's arrays give the call its parts, -/
theorem call_take (d : Dev nD) : (StableHlo.held (d : Thread nD τ) uc (V1 m d) : sProp 𝕄)
    ⊢ iprop(((bigSep Finset.univ fun c : Fin ((K (F := F)).nCore 0) => (P m).st 0 d c) ∗ readRest m d)
        ∗ StableHlo.held (d : Thread nD τ) (uc \ callRefs) (V1 m d)) := by
  rw [StableHlo.held_sub_split (d : Thread nD τ) callRefs_sub (V1 m d), held_call, V1_words, V1_v0,
    V1_ne m d (r := main_v1_0) (by decide), V1_ne m d (r := main_v1_1) (by decide)]
  iintro ⟨Hc, Hr⟩
  isplitl [Hc]
  · iapply (call_in m d); iexact Hc
  iexact Hr

/-- and take them back at its end. -/
theorem call_give (d : Dev nD) :
    iprop(((bigSep Finset.univ fun c : Fin ((K (F := F)).nCore 0) => (P m).dn 0 d c) ∗ readRest m d)
        ∗ StableHlo.held (d : Thread nD τ) (uc \ callRefs) (V1 m d))
      ⊢ (StableHlo.held (d : Thread nD τ) uc (V2 m d) : sProp 𝕄) := by
  have hr : (StableHlo.held (d : Thread nD τ) (uc \ callRefs) (V2 m d) : sProp 𝕄) = StableHlo.held (d : Thread nD τ) (uc \ callRefs) (V1 m d) := by
    refine StableHlo.held_congr _ fun b hb => ?_
    have hb' := (Finset.mem_sdiff.mp hb).2
    simp only [callRefs, Finset.mem_insert, Finset.mem_singleton, not_or] at hb'
    exact V2_ne m d hb'.2.2.1 hb'.2.2.2
  rw [StableHlo.held_sub_split (d : Thread nD τ) callRefs_sub (V2 m d), held_call, V2_rows, V2_sums,
    V2_ne m d (StableHlo.devRef_ne_of_ne (by decide)) (StableHlo.devRef_ne_of_ne (by decide)),
    V2_ne m d (StableHlo.devRef_ne_of_ne (by decide)) (StableHlo.devRef_ne_of_ne (by decide)), V1_words, V1_v0, hr]
  iintro ⟨Hc, Hr⟩
  isplitl [Hc]
  · iapply (call_out m d); iexact Hc
  iexact Hr

/-- After its only call the TensorCore owes nothing. -/
theorem owes_none (d : Dev nD) : (K (F := F)).Otc (N := 1) d 1 = 0 := by
  unfold SparseCore.Cfg.Otc
  exact Finset.sum_eq_zero fun q _ => if_neg (by omega)

/-- Its state after the call: nothing owed, the waits it has recorded below a level, and the rest to give back. -/
theorem st_idle (d : Dev nD) : ((K (F := F)).tcSt EH d 1 : sProp 𝕄)
    ⊢ iprop(idleBelow (F := F) endLev d ∗ (idleBelow (F := F) endLev d -∗ (K (F := F)).tcSt EH d 1)) := by
  unfold SparseCore.Cfg.tcSt idleBelow endLev
  rw [owes_none]
  iintro ⟨HO, Hr⟩
  isplitl [HO]; · iexact HO
  iintro HO
  isplitl [HO]; · iexact HO
  iexact Hr

/-- The dense layers within all the arrays. -/
theorem dense_wp (d : Dev nD) :
    iprop(boundary (d : Thread nD τ) ∗ StableHlo.held (d : Thread nD τ) uc (V3 m d) ∗ idleBelow (F := F) endLev d
        ∗ levAts (K (F := F)).L (K (F := F)).lev ∗ Pipeline.cellsGhost (Pipeline.pin (pcfgs (F := F)) adm) (EP (F := F)) 0 d
        ∗ Pipeline.toksInit (Pipeline.pin (pcfgs (F := F)) adm) (EP (F := F)) 0 d)
      ⊢ wp (M := 𝕄) frame (wpE ((K (F := F)).defs (D (F := F))) 𝒱 (d : Thread nD τ) none) Set.univ
          (SparseCore.liftProg (Prog.lift (.customCall (Pipeline.entry 0) ())))
          fun _ => iprop(boundary (d : Thread nD τ) ∗ StableHlo.held (d : Thread nD τ) uc (V4 m d) ∗ idleBelow (F := F) endLev d) := by
  have hsub : arrs ⊆ uc := Pipeline.arrRefs_sub_ucRefs _ (by decide)
  have hr : (StableHlo.held (d : Thread nD τ) (uc \ arrs) (V4 m d) : sProp 𝕄) = StableHlo.held (d : Thread nD τ) (uc \ arrs) (V3 m d) := by
    refine StableHlo.held_congr _ fun b hb => Vout_ne (V3 m) endLev d ?_
    rintro rfl
    exact (Finset.mem_sdiff.mp hb).2 (Finset.mem_map.mpr ⟨main_v20, Finset.mem_image.mpr ⟨7, Finset.mem_univ _, rfl⟩, rfl⟩)
  rw [StableHlo.held_sub_split (d : Thread nD τ) hsub (V3 m d), StableHlo.held_sub_split (d : Thread nD τ) hsub (V4 m d), hr]
  iintro ⟨Hb, ⟨Ha, Hr⟩, Hi, Hl, Hg, Ht⟩
  iapply ((K (F := F)).wp_liftProg (D (F := F)) 𝒱 (d : Thread nD τ) Set.univ none)
  have h := region_wp (V3 m) endLev d
  iapply (wp_wand_r (M := 𝕄) frame (wpE (D (F := F)) 𝒱 (d : Thread nD τ) none) Set.univ
    (Q := fun _ => iprop(boundary (d : Thread nD τ) ∗ StableHlo.held (d : Thread nD τ) arrs (Vout (V3 m) endLev d) ∗ idleBelow (F := F) endLev d)))
  isplitr [Hr]
  · iapply h
    isplitl [Hb]; · iexact Hb
    isplitl [Ha]; · iexact Ha
    isplitl [Hi]; · iexact Hi
    isplitl [Hl]; · iexact Hl
    isplitl [Hg]; · iexact Hg
    iexact Ht
  iintro %_ ⟨Hb, Ha, Hi⟩
  isplitl [Hb]; · iexact Hb
  isplitr [Hi]
  · isplitl [Ha]; · iexact Ha
    iexact Hr
  iexact Hi

/-- What the TensorCore ends with: its arrays. -/
def FIN (d : Dev nD) : sProp 𝕄 := StableHlo.held (d : Thread nD τ) uc (V5 m d)

/-- What it starts with beside the launch's own: the dense layers' ghost state. -/
def G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

variable (ρ : Dev nD → PrngReg)

/-- The TensorCore's run. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  have e0 : (unscopedBufs d (fun b => m ((SparseCore.T d).loc b)) : sProp 𝕄) = StableHlo.held (d : Thread nD τ) uc (V0 m d) :=
    Pipeline.unscopedBufs_held d (V0 m d)
  unfold SparseCore.Cfg.tcRes SparseCore.Cfg.tcEnd G
  rw [e0, main_parts]
  iintro ⟨#Hctx, Hst, ⟨Hb, Hh, Hts, -⟩, Hg, Ht⟩
  ihave Hl := ((K (F := F)).ctx_levAts κ) $$ Hctx
  iapply (StableHlo.wp_seq 𝒱 none Set.univ d uc _ opsA opsA_sub opsA_fresh (V0 m d)) $$ [Hb Hh]
  · isplitl [Hb]; · iexact Hb
    iexact Hh
  iintro ⟨Hb, Hh⟩
  ihave Hh := (Entails.of_eq (show (StableHlo.held (d : Thread nD τ) uc (StableHlo.after opsA (V0 m d)) : sProp 𝕄) = StableHlo.held (d : Thread nD τ) uc (V1 m d) from rfl)) $$ Hh
  ihave Hc := (call_take m d) $$ Hh
  icases Hc with ⟨⟨Hc, Hrest⟩, Hr⟩
  rw [wp_bind]
  iapply ((K (F := F)).wp_run (D (F := F)) 𝒱 (EH := EH) (P := P m) κ d 0) $$ [Hst Hc Hrest Hr Hb Hts Hl Hg Ht]
  isplitr; · iexact Hctx
  isplitl [Hst]; · iexact Hst
  isplitl [Hc]; · iexact Hc
  iintro ⟨Hst, Hdn⟩
  ihave Hh := (call_give m d) $$ [Hdn Hrest Hr]
  · isplitr [Hr]
    · isplitl [Hdn]; · iexact Hdn
      iexact Hrest
    iexact Hr
  iapply (StableHlo.wp_seq 𝒱 none Set.univ d uc _ opsB opsB_sub opsB_fresh (V2 m d)) $$ [Hb Hh]
  · isplitl [Hb]; · iexact Hb
    iexact Hh
  iintro ⟨Hb, Hh⟩
  ihave Hh := (Entails.of_eq (show (StableHlo.held (d : Thread nD τ) uc (StableHlo.after opsB (V2 m d)) : sProp 𝕄) = StableHlo.held (d : Thread nD τ) uc (V3 m d) from rfl)) $$ Hh
  ihave Hst := (Entails.of_eq (show ((K (F := F)).tcSt EH d ((0 : Fin 1).val + 1) : sProp 𝕄) = (K (F := F)).tcSt EH d 1 from rfl)) $$ Hst
  ihave Hi := (st_idle d) $$ Hst
  icases Hi with ⟨Hi, Hback⟩
  rw [wp_bind]
  iapply (wp_wand_r (M := 𝕄) frame (wpE ((K (F := F)).defs (D (F := F))) 𝒱 (d : Thread nD τ) none) Set.univ
    (Q := fun _ => iprop(boundary (d : Thread nD τ) ∗ StableHlo.held (d : Thread nD τ) uc (V4 m d) ∗ idleBelow (F := F) endLev d)))
  isplitl [Hb Hh Hi Hl Hg Ht]
  · iapply (dense_wp m d)
    isplitl [Hb]; · iexact Hb
    isplitl [Hh]; · iexact Hh
    isplitl [Hi]; · iexact Hi
    isplitl [Hl]; · iexact Hl
    isplitl [Hg]; · iexact Hg
    iexact Ht
  iintro %_ ⟨Hb, Hh, Hi⟩
  iapply (StableHlo.wp_seq 𝒱 none Set.univ d uc _ opsC opsC_sub opsC_fresh (V4 m d)) $$ [Hb Hh]
  · isplitl [Hb]; · iexact Hb
    iexact Hh
  iintro ⟨Hb, Hh⟩
  ihave Hh := (Entails.of_eq (show (StableHlo.held (d : Thread nD τ) uc (StableHlo.after opsC (V4 m d)) : sProp 𝕄) = StableHlo.held (d : Thread nD τ) uc (V5 m d) from rfl)) $$ Hh
  rw [wp_pure]
  imodintro
  isplitl [Hi Hback]
  · iapply Hback; iexact Hi
  isplitl [Hh]; · unfold FIN; iexact Hh
  isplitl [Hb]; · iexact Hb
  iexact Hts

end Cert.Proof.Sc
end
-- ==== Proof.Run.lean ====
/-
  The kernel's run: from any launch memory whose words name rows of the table, every complete execution ends with the
  arrays the parts of `@main` leave, and no semaphore raised.
-/
module

public import proofs.«01_k».proof.Proof.Host

@[expose] public section

noncomputable section

namespace Cert.Proof.Sc

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-- The ghost state of the launch: the handshakes' and the pipeline's. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp 𝕄) := by
    rw [show (bigSep Finset.univ fun thr : Thread nD τ => bigSep Finset.univ fun q : Fin 1 => (P (F := F) m).x q thr) = bigSep Finset.univ fun _ => iprop(emp) from
      bigSep_congr fun _ _ => bigSep_univ_of_subsingleton (0 : Fin 1)]
    exact bigSep_emp_const _
  have hG : (bigSep Finset.univ fun d : Dev nD => G (F := F) d)
      = iprop((bigSep Finset.univ fun c : Dev nD => bigSep Finset.univ fun p : Fin 1 => Pipeline.cellsGhost (Pipeline.pin (pcfgs (F := F)) adm) (EP (F := F)) p c)
          ∗ (bigSep Finset.univ fun c : Dev nD => bigSep Finset.univ fun p : Fin 1 => (Pipeline.toksInit (Pipeline.pin (pcfgs (F := F)) adm) (EP (F := F)) p c : sProp 𝕄))) := by
    rw [← bigSep_sep']
    exact bigSep_congr fun c _ => by
      rw [bigSep_univ_of_subsingleton (0 : Fin 1), bigSep_univ_of_subsingleton (0 : Fin 1)]; rfl
  unfold u₀
  rw [hx, hG]
  iintro Hu
  ihave H := (ownU_pair (initOf (K (F := F)).hsCells (K (F := F)).hsToks)
    ((initOf (Pipeline.cells (Pipeline.pin (pcfgs (F := F)) adm) cellOf_inj) (Pipeline.launchToks (Pipeline.pin (pcfgs (F := F)) adm) cellOf_inj),
      (1 : Counters)))) $$ Hu
  icases H with ⟨HH, HR⟩
  ihave H := (own_pair_emb (embR : Emb (UP × Counters) 𝕄)
    (initOf (Pipeline.cells (Pipeline.pin (pcfgs (F := F)) adm) cellOf_inj) (Pipeline.launchToks (Pipeline.pin (pcfgs (F := F)) adm) cellOf_inj))
    (1 : Counters)) $$ HR
  icases H with ⟨HP, -⟩
  imod (Pipeline.fund_ghost (Pipeline.pin (pcfgs (F := F)) adm) (EP (F := F)) cellOf_inj) $$ HP with ⟨Hg, Ht⟩
  imodintro
  isplitl [HH]; · iexact HH
  isplitr []
  · isplitl [Hg]; · iexact Hg
    iexact Ht
  iempintro

/-- What the run leaves in device `d`'s arrays. -/
def fq (d : Dev nD) (s' : Phys nD τ sig (Elt F)) : Prop := ∀ b : {b : DevRef τ sig // b ∈ uc}, s'.mem.mem (d, b.1) = V5 m d b.1

theorem hfin (d : Dev nD) (s' : Phys nD τ sig (Elt F)) : iprop(FIN m d ∗ SI s') ⊢ (⌜fq m d s'⌝ : sProp 𝕄) := by
  refine (forall_intro fun b : {b : DevRef τ sig // b ∈ uc} => ?_).trans pure_forall.2
  obtain ⟨b, hb'⟩ := b
  have hb : ({b} : Finset (DevRef τ sig)) ⊆ uc := Finset.singleton_subset_iff.mpr hb'
  unfold FIN
  rw [StableHlo.held_sub_split (d : Thread nD τ) hb (V5 m d)]
  iintro ⟨⟨Hi, -⟩, HSI⟩
  ihave Hi := (Entails.of_eq (show (StableHlo.held (d : Thread nD τ) {b} (V5 m d) : sProp 𝕄) = (((d, b) : Loc nD τ sig) ↦{fullShare} V5 m d b) from
    bigSep_singleton)) $$ Hi
  ihave H := (SI_pointsTo_agree (st := s') (ℓ := (d, b)) (I := Finset.univ) (q := fullShare) (f := V5 m d b)) $$ [HSI Hi]
  · isplitl [HSI] <;> iassumption
  icases H with %h2
  ipureintro; exact funext fun i => h2 i (Finset.mem_univ i)

/-- The run's post: every unscoped array at the contents `V5` names, the semaphores at zero. -/
def QC : PUnit × MemSt nD τ sig (Elt F) → Prop := fun r =>
  (∀ (c : Dev nD) (b : {b : DevRef τ sig // b ∈ uc}), r.2.mem (c, b.1) = V5 m c b.1) ∧ r.2.sem = fun _ => 0

theorem run_main [∀ e, Nonempty (Elt F e)] (hm : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hm)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

/-! ## The arguments -/

/-- The references the second line writes, in order. -/
def writesB : List (Ref sig .tc) := [main_v2, main_v3, main_c, main_v4, main_v5, main_v6, main_v7, main_v8, main_v9, main_v10, main_cst, main_v11,
  main_v12, main_c_0, main_v13, main_v14, main_cst_1, main_v15, main_c_2, main_v16, main_c_3, main_v17, main_v18, main_v19]

theorem opsB_writes : (opsB : List (HloOp τ sig (Elt F))).Forall fun op => op.writes ⊆ (writesB.map (Proc.devRef (τ := τ) .tc)).toFinset :=
  StableHlo.forall_writes_sub_of_map rfl
theorem opsC_writes : (opsC : List (HloOp τ sig (Elt F))).Forall fun op => op.writes ⊆ ([main_v21].map (Proc.devRef (τ := τ) .tc)).toFinset :=
  StableHlo.forall_writes_sub_of_map rfl

/-- A reference nothing in `@main` writes ends as it began. -/
theorem V5_arg (d : Dev nD) {r : Ref sig .tc}
    (h : r ∉ main_v0 :: main_v1_0 :: main_v1_1 :: main_v20 :: main_v21 :: writesB) :
    V5 m d (Proc.devRef .tc r) = m ((d : Thread nD τ).loc r) := by
  simp only [List.mem_cons, not_or] at h
  obtain ⟨hA, hB, hC, hD, hE, hW⟩ := h
  unfold V5
  rw [StableHlo.after_of_writes_sub (W := [main_v21]) _ _ opsC_writes (by simpa only [List.mem_singleton] using hE)]
  unfold V4
  rw [Vout_ne (V3 m) endLev d (StableHlo.devRef_ne_of_ne hD)]
  unfold V3
  rw [StableHlo.after_of_writes_sub _ _ opsB_writes hW, V2_ne m d (StableHlo.devRef_ne_of_ne hB) (StableHlo.devRef_ne_of_ne hC), V1_ne m d hA]

/-- The seven arguments, unchanged. -/
def Kept (m' : (ℓ : Loc nD τ sig) → Buf (Elt F) ℓ) (c : Dev nD) : Prop :=
  m' ((c : Thread nD τ).loc main_arg0) = m ((c : Thread nD τ).loc main_arg0) ∧ m' ((c : Thread nD τ).loc main_arg1) = m ((c : Thread nD τ).loc main_arg1)
    ∧ m' ((c : Thread nD τ).loc main_arg2) = m ((c : Thread nD τ).loc main_arg2) ∧ m' ((c : Thread nD τ).loc main_arg3) = m ((c : Thread nD τ).loc main_arg3)
    ∧ m' ((c : Thread nD τ).loc main_arg4) = m ((c : Thread nD τ).loc main_arg4) ∧ m' ((c : Thread nD τ).loc main_arg5) = m ((c : Thread nD τ).loc main_arg5)
    ∧ m' ((c : Thread nD τ).loc main_arg6) = m ((c : Thread nD τ).loc main_arg6)

theorem kept_of {r : PUnit × MemSt nD τ sig (Elt F)} (h : QC m r) (c : Dev nD) : Kept m r.2.mem c := by
  have k {b : Ref sig .tc} (hs : b.isScoped = false) (hb : b ∉ main_v0 :: main_v1_0 :: main_v1_1 :: main_v20 :: main_v21 :: writesB) :
      r.2.mem ((c : Thread nD τ).loc b) = m ((c : Thread nD τ).loc b) := (h.1 c ⟨_, uc_mem hs⟩).trans (V5_arg m c hb)
  exact ⟨k (by decide) (by decide), k (by decide) (by decide), k (by decide) (by decide), k (by decide) (by decide), k (by decide) (by decide),
    k (by decide) (by decide), k (by decide) (by decide)⟩

/-- The run with the value dropped: the arguments unchanged, every semaphore at zero. -/
theorem run_frame [∀ e, Nonempty (Elt F e)] (hm : InRange m) :
    θ_run (Cert.KernelIdeal.defs (F := F)) (Cert.KernelIdeal.threads (F := F)) ⟨m, fun _ => 0, ρ⟩
      (fun r => (∀ c, Kept m r.2.mem c) ∧ r.2.sem = fun _ => 0) :=
  (θ_run Cert.KernelIdeal.defs _ _).mono (fun _ h => ⟨kept_of m h, h.2⟩) (run_main m ρ hm)

end Cert.Proof.Sc
end
-- ==== Proof.Bridge.lean ====
/-
  The kernel as compiled and its idealization are one program where the floats are bits: the idealization only names two
  constants, and a name stands there for the bits it was given.
-/
module

public import proofs.«01_k».proof.Defs
public import proofs.«01_k».proof.Proof.Gen.Kernel
public import proofs.«01_k».proof.Proof.Gen.KernelIdeal

@[expose] public section

noncomputable section

namespace Cert.Proof

open Idealize.ShloMosaic

/-- A name's bits. -/
instance namedBits : Named Bits := ⟨fun _ _ {φ} bits => Scalar.ofBits φ bits⟩

set_option maxHeartbeats 4000000 in
/-- The bodies of the two programs, label by label. -/
theorem bodies_eq : @Cert.Kernel.defs₀ Bits _ _ = @Cert.KernelIdeal.defs₀ Bits _ _ _ := by
  funext p l a
  match p, l, a with
  | .scVector c s, 0, _ => rfl
  | .tc, 1, (t, s) => rfl
  | .tc, 0, _ => rfl
  | .scScalar _, 0, _ => rfl
  | .scScalar _, 1, _ => rfl
  | .scVector _ _, 1, _ => rfl

set_option maxHeartbeats 4000000 in
/-- Their definitions, with the calls' own. -/
theorem defs_eq : @Cert.Kernel.defs Bits _ _ = @Cert.KernelIdeal.defs Bits _ _ _ :=
  congrArg (fun x => (@Cert.KernelIdeal.sc Bits _).defs (Pipeline.defs Cert.KernelIdeal.pcfgs x)) bodies_eq

set_option maxHeartbeats 4000000 in
/-- Their threads. -/
theorem threads_eq : @Cert.Kernel.threads Bits _ _ = @Cert.KernelIdeal.threads Bits _ _ := rfl

end Cert.Proof
end
-- ==== Proof.Pre.lean ====
/-
  What the two preconditions say of the launch arrays.
-/
module

public import proofs.«01_k».proof.Defs
public import proofs.«01_k».proof.Proof.Gen.Pre_in_range
public import proofs.«01_k».proof.Proof.Gen.Pre_pre
public import Idealize.ShloMosaic.Lib.ReduceAll

@[expose] public section

noncomputable section

namespace Cert.Proof.Sc

open Idealize.ShloMosaic

theorem andi_one {p q : BitVec 1} (h : IntOp.andi p q = 1#1) : p = 1#1 ∧ q = 1#1 := by
  revert h; revert p q; decide

/-- A word that is at least zero and below a million as a signed number is below a million as it stands. -/
theorem word_range {v : BitVec 32} (h : IntOp.andi (IntOp.cmpi .sge v 0#32) (IntOp.cmpi .slt v 1000000#32) = 1#1) : v.toNat < 1000000 := by
  have ofBool_eq_one (p : Bool) : (BitVec.ofBool p = 1#1) ↔ p = true := by cases p <;> decide
  obtain ⟨h1, h2⟩ := andi_one h
  simp only [IntOp.cmpi, ofBool_eq_one, BitVec.sle_eq_decide, BitVec.slt_eq_decide,
    decide_eq_true_eq, BitVec.toInt_eq_toNat_cond, BitVec.toNat_ofNat, Nat.reducePow, Nat.reduceMod] at h1 h2
  omega

variable {F : FTy → Type} [FloatOps F]

instance : Subsingleton Cert.Pre_in_range.S_.Idx := ⟨fun a b => funext fun k => nomatch k⟩

section
attribute [local instance] Cert.Pre_in_range.Gen.facts
/-- The range precondition: every word names a row of the table. -/
theorem range_of_in_range {a0 a1 a2 a3 a4 a5 a6} (h : Cert.Pre_in_range.fn (F := F) a0 a1 a2 a3 a4 a5 a6 = fun _ => 1#1) (x) : (a0 x).toNat < 1000000 := by
  have e := congrFun h (fun k => nomatch k)
  simp only [Cert.Pre_in_range.fn] at e
  exact word_range (Host.reduce_andi_all _ _ _ _ _ e x)
end

instance : Subsingleton Cert.Pre_pre.S_.Idx := ⟨fun a b => funext fun k => nomatch k⟩

/-- An extended real whose absolute value is below the infinity is a real number. -/
theorem real_of_lt {v : EReal} (h : Ideal.cmp .olt (max v (-v)) (Ideal.ofBits .f32 0x7F800000#32) = 1#1) : ∃ r : ℝ, v = r := by
  have ht : Ideal.ofBits .f32 0x7F800000#32 = (⊤ : EReal) := by simp [Ideal.ofBits, Ideal.ieee]
  rw [ht] at h
  have hlt : max v (-v) < ⊤ := by
    by_contra hn
    have : Ideal.cmp .olt (max v (-v)) ⊤ = 0#1 := by simp only [Ideal.cmp, hn, decide_false]; rfl
    rw [this] at h
    exact absurd h (by decide)
  induction v using EReal.rec with
  | bot => simp at hlt
  | top => simp at hlt
  | coe r => exact ⟨r, rfl⟩

section
attribute [local instance] Cert.Pre_pre.Gen.facts

/-- The full precondition, field by field: the words in range, the offsets the positions, every float a real number. -/
theorem pre_fields {a0 a1 a2 a3 a4 a5 a6} (h : Cert.Pre_pre.fn (F := Ideal) a0 a1 a2 a3 a4 a5 a6 = fun _ => 1#1) :
    (∀ x, (a0 x).toNat < 1000000) ∧ (∀ x, a1 x = BitVec.ofNat 32 (x 0).val)
      ∧ (∀ x, ∃ r : ℝ, a2 x = r) ∧ (∀ x, ∃ r : ℝ, a3 x = r) ∧ (∀ x, ∃ r : ℝ, a4 x = r) ∧ (∀ x, ∃ r : ℝ, a5 x = r) ∧ (∀ x, ∃ r : ℝ, a6 x = r) := by
  have e := congrFun h (fun k => nomatch k)
  simp only [Cert.Pre_pre.fn, Cert.Pre_pre.fn_part1, Cert.Pre_pre.fn_part2] at e
  obtain ⟨e, e6⟩ := andi_one e
  obtain ⟨e, e5⟩ := andi_one e
  obtain ⟨e, e4⟩ := andi_one e
  obtain ⟨e, e3⟩ := andi_one e
  obtain ⟨e, e2⟩ := andi_one e
  obtain ⟨e0, e1⟩ := andi_one e
  refine ⟨fun x => word_range (Host.reduce_andi_all _ _ _ _ _ e0 x), fun x => ?_, fun x => real_of_lt (Host.reduce_andi_all _ _ _ _ _ e2 x),
    fun x => real_of_lt (Host.reduce_andi_all _ _ _ _ _ e3 x), fun x => real_of_lt (Host.reduce_andi_all _ _ _ _ _ e4 x),
    fun x => real_of_lt (Host.reduce_andi_all _ _ _ _ _ e5 x), fun x => real_of_lt (Host.reduce_andi_all _ _ _ _ _ e6 x)⟩
  have h1 := Host.reduce_andi_all _ _ _ _ _ e1 x
  have h2 : BitVec.ofBool (a1 x == BitVec.ofNat 32 (x 0).val) = 1#1 := h1
  revert h2
  cases hb : a1 x == BitVec.ofNat 32 (x 0).val
  · intro h; exact absurd h (by decide)
  · intro _; exact eq_of_beq hb
end

end Cert.Proof.Sc
end
-- ==== Proof.Frames.lean ====
/-
  The claims without a value: each program runs to its end, its arguments unchanged and its semaphores at zero; and the
  two named constants.
-/
module

public import proofs.«01_k».proof.Proof.Run
public import proofs.«01_k».proof.Proof.Bridge
public import proofs.«01_k».proof.Proof.Pre
public import proofs.«01_k».proof.Proof.Gen.ReferenceIdeal
public import proofs.«01_k».proof.Proof.Gen.ReferenceIdeal.Run

@[expose] public section

noncomputable section

namespace Cert.Proof

open Idealize.ShloMosaic Idealize.SL.Sem

attribute [local instance] Cert.Kernel.Gen.facts Cert.KernelIdeal.Gen.facts Cert.ReferenceIdeal.Gen.facts Cert.Pre_in_range.Gen.facts Cert.Pre_pre.Gen.facts

/-- The words in range, from the range precondition. -/
theorem inRange_of (m : (ℓ : Loc Cert.KernelIdeal.nD Cert.KernelIdeal.τ Cert.KernelIdeal.sig) → Buf (Elt Ideal) ℓ) (h : Cert.Pre_KernelIdeal m) :
    Sc.InRange m := fun d x => Sc.range_of_in_range (h d) x

/-- and from the full one. -/
theorem inRange_of_pre (m : (ℓ : Loc Cert.KernelIdeal.nD Cert.KernelIdeal.τ Cert.KernelIdeal.sig) → Buf (Elt Ideal) ℓ) (h : Cert.Pre_KernelIdeal_pre m) :
    Sc.InRange m := fun d x => (Sc.pre_fields (h d)).1 x

/-- The idealized kernel's frame, -/
theorem frame_ideal : Cert.quiescent_KernelIdeal := fun m g h => Sc.run_frame m g (inRange_of m h)

/-- the same under the full precondition, -/
theorem frame_ideal_pre : Cert.quiescent_KernelIdeal_pre_pre := fun m g h => Sc.run_frame m g (inRange_of_pre m h)

/-- the kernel's, -/
theorem frame_kernel : Cert.quiescent_Kernel := by
  intro m g h
  have hm : Sc.InRange (F := Bits) m := fun d x => Sc.range_of_in_range (h d) x
  have hr := Sc.run_frame (F := Bits) m g hm
  rw [← defs_eq, ← threads_eq] at hr
  exact hr

/-- the reference's, which asks nothing of its arguments, -/
theorem frame_reference : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

/-- and so under the full precondition. -/
theorem frame_reference_pre : Cert.quiescent_ReferenceIdeal_pre_pre := fun m g _ => frame_reference m g trivial

/-- The two named constants. -/
theorem preserves : Cert.preserves_Kernel_KernelIdeal :=
  ⟨IdealRules.named_const.statement Cert.KernelIdeal.κ "mean" .f32 0x35A72EF8#32 ((802817⁻¹ : ℝ) : EReal) rfl,
    IdealRules.named_const.statement Cert.KernelIdeal.κ "pad" .f32 0xF149F2CA#32 ⊥ rfl⟩

end Cert.Proof
end
-- ==== Proof.KerArray.lean ====
/-
  The dense layers' blocks read from their arrays, and the result's array read from its blocks.
-/
module

public import proofs.«01_k».proof.Proof.Region
public import Idealize.ShloMosaic.Lib.Pipeline.ValueKit.Geometry
public import Idealize.ShloMosaic.Lib.Pointwise

@[expose] public section

noncomputable section

namespace Cert.Proof.Sc

open Cert.KernelIdeal Cert.KernelIdeal.Gen Idealize.ShloMosaic Idealize.ShloMosaic.TcCoe Idealize.SL.Sem

variable (V : Dev nD → Valuation τ sig (Elt Ideal)) (b : ℕ) (c : Dev nD)

/-- The grid's points are its one coordinate. -/
theorem coords_val : ∀ t : Fin cfg1.N, (grid1.coords t 0).val = t.val := by decide +kernel

/-- The row of the array at row `r` of block `t`. -/
def atRow (t : Fin cfg1.N) (r : Fin 1024) : Fin 16384 := ⟨t.val * 1024 + r.val, by have : t.val < 16 := t.isLt; omega⟩

/-- A block of the gathered rows, -/
theorem blk0_apply (t : Fin cfg1.N) (r : Fin 1024) (j : Fin 128) :
    blkOf V c 0 t (ix2 r j) = V c (Proc.devRef .tc main_v1_0) (ix2 (atRow t r) j) := by
  refine congrArg (V c (Proc.devRef .tc main_v1_0)) (funext fun a => Fin.ext ?_)
  refine (Pipeline.Window.rect_emb_val (win1 0) t (ix2 r j) a).trans ?_
  match a with
  | ⟨0, _⟩ => exact congrArg (fun n => n * 1024 + r.val) ((show ∀ t : Fin cfg1.N, (win1 0).index t 0 = t.val from by decide +kernel) t)
  | ⟨1, _⟩ => exact Nat.zero_add _

/-- a block of the parities. -/
theorem blk1_apply (t : Fin cfg1.N) (r : Fin 1024) (j : Fin 128) :
    blkOf V c 1 t (ix2 r j) = V c (Proc.devRef .tc main_v8) (ix2 (atRow t r) j) := by
  refine congrArg (V c (Proc.devRef .tc main_v8)) (funext fun a => Fin.ext ?_)
  refine (Pipeline.Window.rect_emb_val (win1 1) t (ix2 r j) a).trans ?_
  match a with
  | ⟨0, _⟩ => exact congrArg (fun n => n * 1024 + r.val) ((show ∀ t : Fin cfg1.N, (win1 1).index t 0 = t.val from by decide +kernel) t)
  | ⟨1, _⟩ => exact Nat.zero_add _

/-- The tiles' sums and the layers' weights are one block each. -/
theorem blk2_apply (t : Fin cfg1.N) (r : Fin 32) (j : Fin 128) : blkOf V c 2 t (ix2 r j) = V c (Proc.devRef .tc main_v2) (ix2 r j) := by
  refine congrArg (V c (Proc.devRef .tc main_v2)) (funext fun a => Fin.ext ?_)
  refine (Pipeline.Window.rect_emb_val (win1 2) t (ix2 r j) a).trans ?_
  match a with
  | ⟨0, _⟩ => exact Nat.zero_add _
  | ⟨1, _⟩ => exact Nat.zero_add _
theorem blk3_apply (t : Fin cfg1.N) (r : Fin 64) (j : Fin 256) : blkOf V c 3 t (ix2 r j) = V c (Proc.devRef .tc main_v9) (ix2 r j) := by
  refine congrArg (V c (Proc.devRef .tc main_v9)) (funext fun a => Fin.ext ?_)
  refine (Pipeline.Window.rect_emb_val (win1 3) t (ix2 r j) a).trans ?_
  match a with
  | ⟨0, _⟩ => exact Nat.zero_add _
  | ⟨1, _⟩ => exact Nat.zero_add _
theorem blk4_apply (t : Fin cfg1.N) (j : Fin 256) : blkOf V c 4 t (ix2 0 j) = V c (Proc.devRef .tc main_v10) (ix2 0 j) := by
  refine congrArg (V c (Proc.devRef .tc main_v10)) (funext fun a => Fin.ext ?_)
  refine (Pipeline.Window.rect_emb_val (win1 4) t (ix2 0 j) a).trans ?_
  match a with
  | ⟨0, _⟩ => exact Nat.zero_add _
  | ⟨1, _⟩ => exact Nat.zero_add _
theorem blk5_apply (t : Fin cfg1.N) (r : Fin 256) (j : Fin 128) : blkOf V c 5 t (ix2 r j) = V c (Proc.devRef .tc main_v14) (ix2 r j) := by
  refine congrArg (V c (Proc.devRef .tc main_v14)) (funext fun a => Fin.ext ?_)
  refine (Pipeline.Window.rect_emb_val (win1 5) t (ix2 r j) a).trans ?_
  match a with
  | ⟨0, _⟩ => exact Nat.zero_add _
  | ⟨1, _⟩ => exact Nat.zero_add _
theorem blk6_apply (t : Fin cfg1.N) (j : Fin 128) : blkOf V c 6 t (ix2 0 j) = V c (Proc.devRef .tc main_v19) (ix2 0 j) := by
  refine congrArg (V c (Proc.devRef .tc main_v19)) (funext fun a => Fin.ext ?_)
  refine (Pipeline.Window.rect_emb_val (win1 6) t (ix2 0 j) a).trans ?_
  match a with
  | ⟨0, _⟩ => exact Nat.zero_add _
  | ⟨1, _⟩ => exact Nat.zero_add _

/-- Two points write no common block. -/
theorem out_disjoint : ∀ t t' : Fin cfg1.N, (cfg1.win 7).flush t = true → (cfg1.win 7).flush t' = true → t ≠ t' →
    Disjoint ((cfg1.win 7).blk t).view.set ((cfg1.win 7).blk t').view.set :=
  Pipeline.Window.hdisj_of_index_inj (cfg1.win 7) fun t t' _ _ e => by
    have h : ∀ t : Fin cfg1.N, (win1 7).index t 0 = t.val := by decide +kernel
    exact Fin.ext ((h t).symm.trans ((congrFun e 0).trans (h t')))

/-- The result's array at row `r` of block `t` is what point `t` computed there. -/
theorem out_apply (t : Fin cfg1.N) (r : Fin 1024) (j : Fin 128) :
    outArr V b c (ix2 (atRow t r) j)
      = denseOut (grid1.coords t) (blkOf V c 0 t) (blkOf V c 1 t) (blkOf V c 2 t) (blkOf V c 3 t) (blkOf V c 4 t) (blkOf V c 5 t) (blkOf V c 6 t) (ix2 r j) := by
  have e : ((cfg1.win 7).blk t).view.emb (ix2 r j) = ix2 (atRow t r) j := by
    funext a
    refine Fin.ext ((Pipeline.Window.rect_emb_val (win1 7) t (ix2 r j) a).trans ?_)
    match a with
    | ⟨0, _⟩ => exact congrArg (fun n => n * 1024 + r.val) ((show ∀ t : Fin cfg1.N, (win1 7).index t 0 = t.val from by decide +kernel) t)
    | ⟨1, _⟩ => exact Nat.zero_add _
  exact (congrArg (outArr V b c) e.symm).trans ((dats V b 0 c).arrAt_emb_eq_flushed 7 out_disjoint t (flush1_7 t) (ix2 r j))

end Cert.Proof.Sc
end
-- ==== Proof.Spec.lean ====
/-
  What both programs compute, entry by entry, as a function of the arguments at the real numbers.
-/
module

public import Idealize.ShloMosaic.Lib.Pointwise

@[expose] public section

noncomputable section

namespace Cert.Proof

open Idealize.ShloMosaic

/-- Entry `f` of the row of the table that the word at position `n` names (positions and rows wrapped to their ranges). -/
def row (ix : (⟨1, ![819200]⟩ : Shape).Idx → BitVec 32) (tb : (⟨2, ![1000000, 64]⟩ : Shape).Idx → EReal) (n : ℕ) (f : Fin 64) : EReal :=
  tb (ix2 ⟨(ix (ix1 ⟨n % 819200, Nat.mod_lt _ (by norm_num)⟩)).toNat % 1000000, Nat.mod_lt _ (by norm_num)⟩ f)

/-- The mean the embedding holds at segment `r`. -/
def mean (ix : (⟨1, ![819200]⟩ : Shape).Idx → BitVec 32) (tb : (⟨2, ![1000000, 64]⟩ : Shape).Idx → EReal) (r : ℕ) (f : Fin 64) : EReal :=
  if r = 16383 then (∑ n ∈ Finset.Ico 16383 819200, row ix tb n f) * ((802817⁻¹ : ℝ) : EReal) else row ix tb r f

/-- The row at a position inside the list of words, for words in range. -/
theorem row_eq (ix : (⟨1, ![819200]⟩ : Shape).Idx → BitVec 32) (tb : (⟨2, ![1000000, 64]⟩ : Shape).Idx → EReal) (h0 : ∀ x, (ix x).toNat < 1000000)
    (n : Fin 819200) (f : Fin 64) : row ix tb n.val f = tb (ix2 ⟨(ix (ix1 n)).toNat, h0 _⟩ f) := by
  have hn : (⟨n.val % 819200, Nat.mod_lt _ (by norm_num)⟩ : Fin 819200) = n := Fin.ext (Nat.mod_eq_of_lt n.isLt)
  unfold row
  simp only [hn, Nat.mod_eq_of_lt (h0 (ix1 n))]

/-! ## The layers, of means `e` -/

section
variable (e : Fin 64 → EReal) (a3 : (⟨2, ![256, 64]⟩ : Shape).Idx → EReal) (a4 : (⟨1, ![256]⟩ : Shape).Idx → EReal)
  (a5 : (⟨2, ![2, 256]⟩ : Shape).Idx → EReal) (a6 : (⟨1, ![2]⟩ : Shape).Idx → EReal)

/-- Unit `k` of the hidden layer. -/
def unit (k : Fin 256) : EReal := max (∑ f, e f * a3 (ix2 k f) + a4 (ix1 k)) 0

/-- Class `o`'s logit. -/
def logit (o : Fin 2) : EReal := ∑ k, unit e a3 a4 k * a5 (ix2 o k) + a6 (ix1 o)

/-- The larger logit. -/
def peak : EReal := Finset.univ.fold max ⊥ (logit e a3 a4 a5 a6)

/-- Class `o`'s log-probability. -/
def logProb (o : Fin 2) : EReal :=
  logit e a3 a4 a5 a6 o - peak e a3 a4 a5 a6 - Ideal.log (∑ p, Ideal.exp (logit e a3 a4 a5 a6 p - peak e a3 a4 a5 a6))

end

end Cert.Proof
end
-- ==== Proof.Real.lean ====
/-
  Finite values: what the layers make of real inputs is real.
-/
module

public import proofs.«01_k».proof.Proof.Spec

@[expose] public section

noncomputable section

namespace Cert.Proof

open Idealize.ShloMosaic

/-- A value that is a real number. -/
def IsReal (x : EReal) : Prop := ∃ r : ℝ, x = r

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

theorem isReal_zero : IsReal 0 := ⟨0, rfl⟩

theorem IsReal.max {x y : EReal} (hx : IsReal x) (hy : IsReal y) : IsReal (max x y) := by
  rcases max_choice x y with h | h <;> rw [h] <;> assumption

theorem isReal_sum {ι : Type} (s : Finset ι) {f : ι → EReal} (h : ∀ i, IsReal (f i)) : IsReal (∑ i ∈ s, f i) := by
  classical
  induction s using Finset.induction_on with
  | empty => exact isReal_zero
  | insert i s hi ih => rw [Finset.sum_insert hi]; exact (h i).add ih

/-- A mean of rows of reals is real. -/
theorem isReal_mean (ix : (⟨1, ![819200]⟩ : Shape).Idx → BitVec 32) (tb : (⟨2, ![1000000, 64]⟩ : Shape).Idx → EReal) (h : ∀ x, IsReal (tb x)) (r : ℕ)
    (f : Fin 64) : IsReal (mean ix tb r f) := by
  unfold mean
  split
  · exact (isReal_sum _ fun n => h _).mul ⟨_, rfl⟩
  · exact h _

section
variable {e : Fin 64 → EReal} {a3 : (⟨2, ![256, 64]⟩ : Shape).Idx → EReal} {a4 : (⟨1, ![256]⟩ : Shape).Idx → EReal}
  {a5 : (⟨2, ![2, 256]⟩ : Shape).Idx → EReal} {a6 : (⟨1, ![2]⟩ : Shape).Idx → EReal}
  (he : ∀ f, IsReal (e f)) (h3 : ∀ x, IsReal (a3 x)) (h4 : ∀ x, IsReal (a4 x)) (h5 : ∀ x, IsReal (a5 x)) (h6 : ∀ x, IsReal (a6 x))
include he h3 h4

theorem isReal_unit (k : Fin 256) : IsReal (unit e a3 a4 k) :=
  ((isReal_sum _ fun f => (he f).mul (h3 _)).add (h4 _)).max isReal_zero

include h5 h6

/-- The logits of reals are real, -/
theorem isReal_logit (o : Fin 2) : IsReal (logit e a3 a4 a5 a6 o) :=
  (isReal_sum _ fun k => (isReal_unit he h3 h4 k).mul (h5 _)).add (h6 _)

/-- and so is the larger of them. -/
theorem isReal_peak : IsReal (peak e a3 a4 a5 a6) := by
  have h : peak e a3 a4 a5 a6 = max (logit e a3 a4 a5 a6 0) (max (logit e a3 a4 a5 a6 1) ⊥) := rfl
  rw [h, max_eq_left (bot_le : ⊥ ≤ logit e a3 a4 a5 a6 1)]
  exact (isReal_logit he h3 h4 h5 h6 0).max (isReal_logit he h3 h4 h5 h6 1)

end

/-- Subtracting a sum whose first term is real is subtracting twice. -/
theorem sub_add_real {x y : EReal} (z : EReal) (hx : IsReal x) (hy : IsReal y) : x - (y + z) = x - y - z := by
  obtain ⟨a, rfl⟩ := hx
  obtain ⟨b, rfl⟩ := hy
  induction z using EReal.rec with
  | bot => rw [EReal.add_bot, ← EReal.coe_sub, EReal.coe_sub_bot, EReal.coe_sub_bot]
  | coe c => rw [← EReal.coe_add, ← EReal.coe_sub, ← EReal.coe_sub, ← EReal.coe_sub, sub_sub]
  | top => rw [EReal.coe_add_top, ← EReal.coe_sub]; rfl

/-! ## Lanes past the two classes -/

/-- Lanes at −∞ leave the maximum of the two classes alone, -/
theorem fold_pad (l : Fin 128 → EReal) (g : Fin 2 → EReal) (hg : ∀ o : Fin 2, l ⟨o.val, by omega⟩ = g o) (hp : ∀ c : Fin 128, 2 ≤ c.val → l c = ⊥) :
    Finset.univ.fold max ⊥ l = Finset.univ.fold max ⊥ g := by
  refine le_antisymm ((Finset.fold_max_le _).2 ⟨bot_le, fun c _ => ?_⟩) ((Finset.fold_max_le _).2 ⟨bot_le, fun o _ => ?_⟩)
  · by_cases h : c.val < 2
    · rw [show l c = g ⟨c.val, h⟩ from hg ⟨c.val, h⟩]
      exact (Finset.le_fold_max _).2 (.inr ⟨_, Finset.mem_univ _, le_rfl⟩)
    · rw [hp c (by omega)]; exact bot_le
  · rw [← hg o]
    exact (Finset.le_fold_max _).2 (.inr ⟨_, Finset.mem_univ _, le_rfl⟩)

/-- and add nothing to the sum of the exponentials. -/
theorem sum_pad (l : Fin 128 → EReal) (g : Fin 2 → EReal) (hg : ∀ o : Fin 2, l ⟨o.val, by omega⟩ = g o) (hp : ∀ c : Fin 128, 2 ≤ c.val → l c = 0) :
    ∑ c, l c = ∑ o, g o := by
  have h := Fin.sum_univ_add (fun c : Fin (2 + 126) => l c)
  refine h.trans ?_
  rw [Finset.sum_congr rfl (fun (i : Fin 126) _ => hp (Fin.natAdd 2 i) (Nat.le_add_right 2 i.val)), Finset.sum_const_zero, add_zero]
  exact Finset.sum_congr rfl fun o _ => hg o

end Cert.Proof
end
-- ==== Proof.KerBlock.lean ====
/-
  The dense layers' kernel on one block, entry by entry, at the real numbers.
-/
module

public import proofs.«01_k».proof.Proof.Dense
public import proofs.«01_k».proof.Proof.Real

@[expose] public section

noncomputable section

namespace Cert.Proof.Sc

open Cert.KernelIdeal Cert.KernelIdeal.Gen Idealize.ShloMosaic Idealize.ShloMosaic.TcCoe Idealize.SL.Sem

theorem named_mean : (Named.named κ "mean" 0x35A72EF8#32 : Ideal .f32) = ((802817⁻¹ : ℝ) : EReal) := rfl
theorem named_pad : (Named.named κ "pad" 0xF149F2CA#32 : Ideal .f32) = (⊥ : EReal) := rfl

/-- The half of a gathered row that the parity picks. -/
def half (v0 v2 : FVec Ideal S1024x128 .f32) (r : Fin 1024) (f : Fin 64) : EReal :=
  if Ideal.ofBits .f32 0x3F000000#32 < v2 (ix2 r (⟨f.val, by omega⟩ : Fin 128)) then v0 (ix2 r (⟨64 + f.val, by omega⟩ : Fin 128))
  else v0 (ix2 r (⟨f.val, by omega⟩ : Fin 128))

/-- The block's row of means: in the array's last row the sum of the tiles' sums joins in. -/
def blockMean (i : grid1.Coords) (v0 v2 : FVec Ideal S1024x128 .f32) (v10 : FVec Ideal S32x128 .f32) (r : Fin 1024) (f : Fin 64) : EReal :=
  if (i 0).val * 1024 + r.val = 16383 then (half v0 v2 r f + ∑ t : Fin 32, v10 (ix2 t (⟨f.val, by omega⟩ : Fin 128))) * ((802817⁻¹ : ℝ) : EReal)
  else half v0 v2 r f

/-- The test for the last row. -/
theorem last_iff (i : grid1.Coords) (r : Fin 1024) :
    IntOp.cmpi .eq (IntOp.addi (BitVec.ofNat 32 r.val) (Scalar.muli (BitVec.ofNat 32 (i 0).val) 1024#32)) 16383#32 = 1
      ↔ (i 0).val * 1024 + r.val = 16383 := by
  have hi : (i 0).val < 16 := (i 0).isLt
  have hr := r.isLt
  have e : IntOp.addi (BitVec.ofNat 32 r.val) (Scalar.muli (BitVec.ofNat 32 (i 0).val) 1024#32) = BitVec.ofNat 32 ((i 0).val * 1024 + r.val) := by
    show BitVec.ofNat 32 r.val + BitVec.ofNat 32 (i 0).val * BitVec.ofNat 32 1024 = _
    rw [← BitVec.ofNat_mul, ← BitVec.ofNat_add, Nat.add_comm]
  rw [e]
  show BitVec.ofBool (BitVec.ofNat 32 ((i 0).val * 1024 + r.val) == BitVec.ofNat 32 16383) = 1 ↔ _
  rw [show ∀ b, BitVec.ofBool b = 1 ↔ b = true from by decide, beq_iff_eq]
  constructor
  · intro h
    have h' := congrArg BitVec.toNat h
    rw [BitVec.toNat_ofNat, BitVec.toNat_ofNat] at h'
    omega
  · intro h; rw [h]

/-- The hidden layer on a block. -/
theorem pay2_apply (i : grid1.Coords) (v0 v2 : FVec Ideal S1024x128 .f32) (v10 : FVec Ideal S32x128 .f32) (v28 : FVec Ideal S64x256 .f32)
    (v31 : FVec Ideal S1x256 .f32) (a3 : (⟨2, ![256, 64]⟩ : Shape).Idx → EReal) (a4 : (⟨1, ![256]⟩ : Shape).Idx → EReal)
    (h3 : ∀ f k, v28 (ix2 f k) = a3 (ix2 k f)) (h4 : ∀ k, v31 (ix2 0 k) = a4 (ix1 k)) (r : Fin 1024) (k : Fin 256) :
    k1_pay2 (F := Ideal) i v0 v2 v10 v28 v31 (ix2 r k) = unit (blockMean i v0 v2 v10 r) a3 a4 k := by
  unfold k1_pay2
  pointwise
  unfold unit
  rw [h4]
  refine congrArg (fun s => max (s + _) 0) (Finset.sum_congr rfl fun f _ => ?_)
  rw [h3, named_mean]
  refine congrArg (· * _) ?_
  unfold blockMean Scalar.select
  simp only [last_iff]
  rfl

/-- The log-softmax on a block. -/
theorem pay1_apply (v36 : FVec Ideal S1024x256 .f32) (v40 : FVec Ideal S1x128 .f32) (v44 : FVec Ideal S256x128 .f32)
    (e : Fin 64 → EReal) (a3 : (⟨2, ![256, 64]⟩ : Shape).Idx → EReal) (a4 : (⟨1, ![256]⟩ : Shape).Idx → EReal)
    (a5 : (⟨2, ![2, 256]⟩ : Shape).Idx → EReal) (a6 : (⟨1, ![2]⟩ : Shape).Idx → EReal)
    (he : ∀ f, IsReal (e f)) (r3 : ∀ x, IsReal (a3 x)) (r4 : ∀ x, IsReal (a4 x)) (r5 : ∀ x, IsReal (a5 x)) (r6 : ∀ x, IsReal (a6 x))
    (r : Fin 1024) (hu : ∀ k, v36 (ix2 r k) = unit e a3 a4 k)
    (h5 : ∀ (k : Fin 256) (c : Fin 128), v44 (ix2 k c) = if h : c.val < 2 then a5 (ix2 ⟨c.val, h⟩ k) else 0)
    (h6 : ∀ o : Fin 2, v40 (ix2 0 (⟨o.val, by omega⟩ : Fin 128)) = a6 (ix1 o)) (o : Fin 2) :
    k1_pay1 (F := Ideal) v36 k1_pay3 v40 v44 (ix2 r (⟨o.val, by omega⟩ : Fin 128)) = logProb e a3 a4 a5 a6 o := by
  unfold k1_pay1 k1_pay3
  pointwise
  rw [named_pad]
  set l : Fin 128 → EReal := fun c => ∑ k, v36 (ix2 r k) * v44 (ix2 k c) + Scalar.select (IntOp.cmpi .slt (BitVec.ofNat 32 c.val) 2#32) (v40 (ix2 0 c)) ⊥ with hl
  have hlo : ∀ o : Fin 2, l ⟨o.val, by omega⟩ = logit e a3 a4 a5 a6 o := fun o => by
    have h1 : IntOp.cmpi .slt (BitVec.ofNat 32 o.val) 2#32 = 1 := by fin_cases o <;> rfl
    simp only [hl, Scalar.select, if_pos h1, h6, logit, h5, hu, o.isLt, dif_pos, Fin.eta]
  have hlp : ∀ c : Fin 128, 2 ≤ c.val → l c = ⊥ := fun c hc => by
    have h1 : ¬ IntOp.cmpi .slt (BitVec.ofNat 32 c.val) 2#32 = 1 := by revert c; decide
    simp only [hl, Scalar.select, if_neg h1, EReal.add_bot]
  show l ⟨o.val, _⟩ - (Finset.univ.fold max (Ideal.ofBits .f32 0xFF800000#32) l
    + Ideal.log (∑ c, Ideal.exp (l c - Finset.univ.fold max (Ideal.ofBits .f32 0xFF800000#32) l))) = _
  rw [show (Ideal.ofBits .f32 0xFF800000#32 : EReal) = ⊥ from by simp [Ideal.ofBits, Ideal.ieee], fold_pad l _ hlo hlp, hlo]
  change _ - (peak e a3 a4 a5 a6 + Ideal.log (∑ c, Ideal.exp (l c - peak e a3 a4 a5 a6))) = _
  have hp := isReal_peak he r3 r4 r5 r6
  rw [sub_add_real _ (isReal_logit he r3 r4 r5 r6 o) hp]
  unfold logProb
  refine congrArg (fun s => _ - Ideal.log s) (sum_pad _ _ (fun o => by rw [hlo]) fun c hc => ?_)
  rw [hlp c hc]
  obtain ⟨b, hb⟩ := hp
  rw [hb, EReal.bot_sub]
  rfl

end Cert.Proof.Sc
end
-- ==== Proof.Lands.lean ====
/-
  Where a scatter's update lands.
-/
module

public import Idealize.ShloMosaic.Lib.Pointwise

@[expose] public section

noncomputable section

namespace Cert.Proof

open Idealize.ShloMosaic

/-- An update lands at `p` exactly when its start plus its window coordinate is `p` on every axis. -/
theorem lands_iff {s si u : Shape} {w : ℕ} (d : ScatterDims s si u) (j : u.Idx) (idx : IVec si w) (p : s.Idx) :
    d.resultIdx? j idx = some p ↔ ∀ a, d.start j idx a + (d.window j a : ℕ) = ((p a).val : ℤ) := by
  unfold ScatterDims.resultIdx?
  split
  · next h =>
    rw [Option.some_inj]
    constructor
    · intro e a
      rw [← e]
      exact (Int.toNat_of_nonneg (h a).1).symm
    · intro e
      funext a
      refine Fin.ext ?_
      show (d.start j idx a + (d.window j a : ℕ)).toNat = (p a).val
      rw [e a]; rfl
  · next h =>
    constructor
    · intro e; cases e
    · intro e
      refine (h fun a => ?_).elim
      rw [e a]
      exact ⟨Int.natCast_nonneg _, Int.ofNat_lt.2 (p a).isLt⟩

end Cert.Proof
end
-- ==== Proof.KerPad.lean ====
/-
  The second layer's weights and bias written into wider arrays of zeros.
-/
module

public import proofs.«01_k».proof.Proof.Base
public import proofs.«01_k».proof.Proof.Lands
public import Idealize.ShloMosaic.Lib.Routing.OpsSet

@[expose] public section

noncomputable section

namespace Cert.Proof.Sc

open Cert.KernelIdeal Cert.KernelIdeal.Gen Idealize.ShloMosaic Idealize.ShloMosaic.TcCoe Idealize.SL.Sem

/-- The write of the weights, -/
abbrev DW : ScatterDims S256x128 S1 S256x2 := scatter_S256x128_S1_S256x2_01_n_1_0
/-- the write of the bias. -/
abbrev DB : ScatterDims S1x128 S2 S2 := scatter_S1x128_S2_S2_0_0_01_0

/-- Start indices that are all zero start every window at zero. -/
theorem start_zero {s si u : Shape} (d : ScatterDims s si u) (idx : IVec si 32) (h : ∀ i, idx i = 0#32) (j : u.Idx) (a : Fin s.rank) :
    d.start j idx a = 0 := by
  unfold ScatterDims.start
  split
  · rw [h]; rfl
  · rfl

theorem windowW_0 (k : Fin 256) (o : Fin 2) : DW.window (ix2 k o) 0 = k.val := by
  unfold ScatterDims.window
  rw [dif_pos (by decide)]; rfl
theorem windowW_1 (k : Fin 256) (o : Fin 2) : DW.window (ix2 k o) 1 = o.val := by
  unfold ScatterDims.window
  rw [dif_pos (by decide)]; rfl
theorem windowB_0 (o : Fin 2) : DB.window (ix1 o) 0 = 0 := dif_neg (by decide)
theorem windowB_1 (o : Fin 2) : DB.window (ix1 o) 1 = o.val := by
  unfold ScatterDims.window
  rw [dif_pos (by decide)]; rfl

/-- A weight lands in its own row and column. -/
theorem landsW (idx : IVec S1 32) (h : ∀ i, idx i = 0#32) (k k' : Fin 256) (o : Fin 2) (c : Fin 128) :
    DW.resultIdx? (ix2 k' o) idx = some (ix2 k c) ↔ k' = k ∧ o.val = c.val := by
  rw [lands_iff]
  constructor
  · intro e
    have e0 := e 0
    have e1 := e 1
    rw [start_zero DW idx h, windowW_0, zero_add] at e0
    rw [start_zero DW idx h, windowW_1, zero_add] at e1
    exact ⟨Fin.ext (Int.ofNat_inj.1 e0), Int.ofNat_inj.1 e1⟩
  · rintro ⟨rfl, e⟩ a
    rw [start_zero DW idx h, zero_add]
    match a with
    | ⟨0, _⟩ => exact congrArg Nat.cast (windowW_0 k' o)
    | ⟨1, _⟩ => exact congrArg Nat.cast ((windowW_1 k' o).trans e)

/-- A bias lands in its own lane. -/
theorem landsB (idx : IVec S2 32) (h : ∀ i, idx i = 0#32) (o : Fin 2) (c : Fin 128) :
    DB.resultIdx? (ix1 o) idx = some (ix2 0 c) ↔ o.val = c.val := by
  rw [lands_iff]
  constructor
  · intro e
    have e1 := e 1
    rw [start_zero DB idx h, windowB_1, zero_add] at e1
    exact Int.ofNat_inj.1 e1
  · intro e a
    rw [start_zero DB idx h, zero_add]
    match a with
    | ⟨0, _⟩ => exact congrArg Nat.cast (windowB_0 o)
    | ⟨1, _⟩ => exact congrArg Nat.cast ((windowB_1 o).trans e)

/-- The wider weights: the two classes' columns, then what was there. -/
theorem padW_apply (x : FVec Ideal S256x128 .f32) (idx : IVec S1 32) (h : ∀ i, idx i = 0#32) (u : FVec Ideal S256x2 .f32) (k : Fin 256) (c : Fin 128) :
    Host.scatter DW (fun _ b => b) x idx u (ix2 k c) = if hc : c.val < 2 then u (ix2 k ⟨c.val, hc⟩) else x (ix2 k c) := by
  have ex : ∀ j : S256x2.Idx, ∃ (k : Fin 256) (o : Fin 2), j = ix2 k o := fun j =>
    ⟨j 0, j 1, by funext b; match b with | ⟨0, _⟩ => rfl | ⟨1, _⟩ => rfl⟩
  split
  · next hc =>
    refine Routing.scatter_set_hit DW x idx u _ _ (fun j hj => ?_) (ix2 k ⟨c.val, hc⟩) ((landsW idx h _ _ _ _).2 ⟨rfl, rfl⟩)
    obtain ⟨k', o, rfl⟩ := ex j
    obtain ⟨rfl, e⟩ := (landsW idx h _ _ _ _).1 hj
    rw [show o = ⟨c.val, hc⟩ from Fin.ext e]
  · next hc =>
    refine Routing.scatter_set_miss DW x idx u _ fun j hj => ?_
    obtain ⟨k', o, rfl⟩ := ex j
    exact hc (((landsW idx h _ _ _ _).1 hj).2 ▸ o.isLt)

/-- The wider bias in the two classes' lanes. -/
theorem padB_apply (x : FVec Ideal S1x128 .f32) (idx : IVec S2 32) (h : ∀ i, idx i = 0#32) (u : FVec Ideal S2 .f32) (o : Fin 2) :
    Host.scatter DB (fun _ b => b) x idx u (ix2 0 (⟨o.val, by omega⟩ : Fin 128)) = u (ix1 o) := by
  refine Routing.scatter_set_hit DB x idx u _ _ (fun j hj => ?_) (ix1 o) ((landsB idx h _ _).2 rfl)
  obtain ⟨o', rfl⟩ : ∃ o' : Fin 2, j = ix1 o' := ⟨j 0, by funext b; match b with | ⟨0, _⟩ => rfl⟩
  rw [show o' = o from Fin.ext ((landsB idx h _ _).1 hj)]

end Cert.Proof.Sc
end
-- ==== Proof.KerRows.lean ====
/-
  What the SparseCore kernel leaves, in terms of the rows of the table: its gathered rows and its sums of rows.
-/
module

public import proofs.«01_k».proof.Proof.Tile
public import proofs.«01_k».proof.Proof.Real

@[expose] public section

noncomputable section

namespace Cert.Proof.Sc

open Cert.KernelIdeal Cert.KernelIdeal.Gen Idealize.ShloMosaic Idealize.ShloMosaic.TcCoe Idealize.SL.Sem

variable (ix : S819200.Idx → BitVec 32) (tb : S1000000x64.Idx → EReal)

/-- The table with its rows paired. -/
def paired : S500000x128.Idx → EReal := shapeCast S500000x128 tb shapeCasts_S1000000x64_S500000x128

/-- The paired table at a row and a column. -/
theorem paired_apply (p : Fin 500000) (c : Fin 128) :
    paired tb (ix2 p c) = tb (ix2 (⟨p.val * 2 + c.val / 64, by omega⟩ : Fin 1000000) (⟨c.val % 64, by omega⟩ : Fin 64)) := by
  unfold paired
  pointwise

/-- The column of a word's paired row where entry `f` of its own row lies. -/
def colAt (w : BitVec 32) (f : Fin 64) : Fin 128 := ⟨w.toNat % 2 * 64 + f.val, by omega⟩

/-- The paired row of a word, at the column of its own row's entry, is that entry. -/
theorem paired_row (h0 : ∀ x, (ix x).toNat < 1000000) (n : ℕ) (f : Fin 64) :
    paired tb (tix (rowOf (ix (ixAt n))) (colAt (ix (ixAt n)) f)) = row ix tb n f := by
  have hw := h0 (ixAt n)
  have e : tix (rowOf (ix (ixAt n))) (colAt (ix (ixAt n)) f) = ix2 (rowOf (ix (ixAt n))) (colAt (ix (ixAt n)) f) := by
    funext b; match b with | ⟨0, _⟩ => rfl | ⟨1, _⟩ => rfl
  have en : ixAt n = ix1 (⟨n % 819200, Nat.mod_lt _ (by norm_num)⟩ : Fin 819200) := by
    funext b; match b with | ⟨0, _⟩ => rfl
  rw [e, paired_apply]
  unfold row
  simp only [← en]
  have a : (rowOf (ix (ixAt n))).val * 2 + (colAt (ix (ixAt n)) f).val / 64 = (ix (ixAt n)).toNat % 1000000 := by
    show ((ix (ixAt n)).toNat / 2 % 500000) * 2 + ((ix (ixAt n)).toNat % 2 * 64 + f.val) / 64 = _
    omega
  have b : (colAt (ix (ixAt n)) f).val % 64 = f.val := by
    show ((ix (ixAt n)).toNat % 2 * 64 + f.val) % 64 = _
    omega
  simp only [a, b]

/-- One contribution. -/
theorem contrib_apply (h0 : ∀ x, (ix x).toNat < 1000000) (n : ℕ) (f : Fin 64) :
    contrib (F := Ideal) (paired tb) (ix (ixAt n)) (f.val / 16) (lane f.val) = row ix tb n f := by
  rw [← paired_row ix tb h0]
  unfold contrib
  refine congrArg (fun c => paired tb (tix _ c)) (Fin.ext ?_)
  show ((ix (ixAt n)).toNat % 2 * 64 + 16 * (f.val / 16) + f.val % 16) % 128 = (ix (ixAt n)).toNat % 2 * 64 + f.val
  omega

/-- A running sum is the sum of the rows it has added. -/
theorem accAt_apply (h0 : ∀ x, (ix x).toNat < 1000000) (b n : ℕ) (f : Fin 64) :
    accAt (F := Ideal) ix (paired tb) b (f.val / 16) n (lane f.val) = ∑ k ∈ Finset.range n, row ix tb (b + k) f := by
  unfold accAt
  induction n with
  | zero => show Ideal.ofBits .f32 0x00000000#32 = (0 : EReal); simp [Ideal.ofBits, Ideal.ieee]
  | succ n ih =>
    rw [Finset.sum_range_succ, ← ih, ← contrib_apply ix tb h0]
    rfl

/-- The tiles' sums together are the sum over all positions past the gathered ones. -/
theorem blocks_sum (h0 : ∀ x, (ix x).toNat < 1000000) (f : Fin 64) :
    ∑ t : Fin 32, (blockAt (F := Ideal) ix (paired tb) t.val f.val : EReal) = ∑ n ∈ Finset.Ico 16384 819200, row ix tb n f := by
  have h : ∀ T : ℕ, ∑ t ∈ Finset.range T, (blockAt (F := Ideal) ix (paired tb) t f.val : EReal) = ∑ n ∈ Finset.Ico 16384 (16384 + 25088 * T), row ix tb n f := by
    intro T
    induction T with
    | zero => rfl
    | succ T ih =>
      rw [Finset.sum_range_succ, ih, ← Finset.sum_Ico_consecutive (fun n => row ix tb n f) (m := 16384) (n := 16384 + 25088 * T)
        (k := 16384 + 25088 * (T + 1)) (by omega) (by omega)]
      refine congrArg (_ + ·) ?_
      unfold blockAt
      rw [if_pos f.isLt, accAt_apply ix tb h0, Finset.sum_Ico_eq_sum_range,
        show 16384 + 25088 * (T + 1) - (16384 + 25088 * T) = 25088 from by omega]
  rw [Fin.sum_univ_eq_sum_range (fun t => (blockAt (F := Ideal) ix (paired tb) t f.val : EReal)), h]

end Cert.Proof.Sc
end
-- ==== Proof.KerHost.lean ====
/-
  What the dense layers' arrays hold when they start.
-/
module

public import proofs.«01_k».proof.Proof.Host
public import proofs.«01_k».proof.Proof.KerPad
public import proofs.«01_k».proof.Proof.KerRows

@[expose] public section

noncomputable section

namespace Cert.Proof.Sc

open Cert.KernelIdeal Cert.KernelIdeal.Gen Idealize.ShloMosaic Idealize.ShloMosaic.TcCoe Idealize.SL.Sem

variable (m : (ℓ : Loc nD τ sig) → Buf (Elt Ideal) ℓ) (d : Dev nD)

/-- An argument, before the second line. -/
theorem V2_arg {r : Ref sig .tc} (h : r ≠ main_v0) (h0 : r ≠ main_v1_0) (h1 : r ≠ main_v1_1) :
    V2 m d (Proc.devRef .tc r) = m ((SparseCore.T d).loc r) :=
  (V2_ne m d (StableHlo.devRef_ne_of_ne h0) (StableHlo.devRef_ne_of_ne h1)).trans (V1_ne m d h)

/-- A word's lowest bit, as a real. -/
theorem low_bit (w : BitVec 32) : (FloatOps.sitofp .f32 (IntOp.andi w 1#32) : Ideal .f32) = ((((w.toNat % 2 : ℕ) : ℝ)) : EReal) := by
  have e : (w &&& 1#32) = BitVec.ofNat 32 (w.toNat % 2) := by
    refine BitVec.eq_of_toNat_eq ?_
    rw [BitVec.toNat_and, BitVec.toNat_ofNat, BitVec.toNat_ofNat, Nat.and_one_is_mod]
    omega
  show (((w &&& 1#32).toInt : ℝ) : EReal) = _
  rw [e, StableHlo.Predicate.toInt_ofNat_small _ (by omega)]
  norm_cast

/-- The gathered rows. -/
theorem V3_rows : V3 m d (Proc.devRef .tc main_v1_0) = rowsOut (F := Ideal) (words m d) (paired (m ((SparseCore.T d).loc main_arg2))) := by
  unfold V3 opsB
  after_results
  exact V2_rows m d

/-- The tiles' sums. -/
theorem V3_sums (t : Fin 32) (l : Fin 128) :
    V3 m d (Proc.devRef .tc main_v2) (ix2 t l) = blockAt (F := Ideal) (words m d) (paired (m ((SparseCore.T d).loc main_arg2))) t.val l.val := by
  have e : V3 m d (Proc.devRef .tc main_v2) = shapeCast S32x128 (sumsOut (words m d) (tabOf m d)) shapeCasts_S4096_S32x128 := by
    unfold V3 opsB
    after_results
    rw [V2_sums]
    rfl
  rw [e]
  pointwise
  show blockAt (F := Ideal) (words m d) (paired (m ((SparseCore.T d).loc main_arg2))) ((t.val * 128 + l.val) / 128) ((t.val * 128 + l.val) % 128) = _
  rw [show (t.val * 128 + l.val) / 128 = t.val from by omega, show (t.val * 128 + l.val) % 128 = l.val from by omega]

/-- The parities. -/
theorem V3_parity (n : Fin 16384) (j : Fin 128) :
    V3 m d (Proc.devRef .tc main_v8) (ix2 n j) = (((((words m d (ixAt n.val)).toNat % 2 : ℕ) : ℝ)) : EReal) := by
  have e : V3 m d (Proc.devRef .tc main_v8) = broadcastInDim S16384x128 ![0, 1] bcast_S16384x1_S16384x128_0_1 (broadcastInDim S16384x1 ![0] bcast_S16384_S16384x1_0
      (sitofp (F := Ideal) .f32 (andi (extractStridedSlice S16384 ![0] (words m d) slices_S819200_S16384_0) (broadcastInDim S16384 ![] bcast_S_S16384 (constantI S_ 32 1#32))))) := by
    unfold V3 opsB
    after_results
    rw [V2_arg m d (by decide) (by decide) (by decide)]
    rfl
  rw [e]
  pointwise
  have en : (ix1 (⟨n.val, by omega⟩ : Fin 819200) : S819200.Idx) = ixAt n.val := by
    funext b; match b with | ⟨0, _⟩ => exact Fin.ext (Nat.mod_eq_of_lt (by have := n.isLt; omega : n.val < 819200)).symm
  rw [en]
  exact low_bit _

/-- The first layer's weights, -/
theorem V3_w1 (f : Fin 64) (k : Fin 256) : V3 m d (Proc.devRef .tc main_v9) (ix2 f k) = m ((SparseCore.T d).loc main_arg3) (ix2 k f) := by
  have e : V3 m d (Proc.devRef .tc main_v9) = transpose S64x256 [1, 0] (m ((SparseCore.T d).loc main_arg3)) transposes_S256x64_S64x256_1_0 := by
    unfold V3 opsB
    after_results
    rw [V2_arg m d (by decide) (by decide) (by decide)]
  rw [e]
  pointwise

/-- and bias. -/
theorem V3_b1 (k : Fin 256) : V3 m d (Proc.devRef .tc main_v10) (ix2 0 k) = m ((SparseCore.T d).loc main_arg4) (ix1 k) := by
  have e : V3 m d (Proc.devRef .tc main_v10) = shapeCast S1x256 (m ((SparseCore.T d).loc main_arg4)) shapeCasts_S256_S1x256 := by
    unfold V3 opsB
    after_results
    rw [V2_arg m d (by decide) (by decide) (by decide)]
    rfl
  rw [e]
  pointwise

/-- The second layer's weights, -/
theorem V3_w2 (k : Fin 256) (c : Fin 128) :
    V3 m d (Proc.devRef .tc main_v14) (ix2 k c) = if h : c.val < 2 then m ((SparseCore.T d).loc main_arg5) (ix2 ⟨c.val, h⟩ k) else (0 : EReal) := by
  have e : V3 m d (Proc.devRef .tc main_v14) = Host.scatter DW (fun _ b => b) (broadcastInDim S256x128 ![] bcast_S_S256x128 (constant (F := Ideal) S_ .f32 0x00000000#32))
      (broadcastInDim S1 ![] bcast_S_S1 (constantI S_ 32 0#32)) (transpose S256x2 [1, 0] (m ((SparseCore.T d).loc main_arg5) : FVec Ideal S2x256 .f32) transposes_S2x256_S256x2_1_0) := by
    unfold V3 opsB
    after_results
    rw [V2_arg m d (by decide) (by decide) (by decide)]
  rw [e, padW_apply _ (broadcastInDim S1 ![] bcast_S_S1 (constantI S_ 32 0#32)) (fun _ => rfl)]
  split
  · pointwise
  · show Ideal.ofBits .f32 0x00000000#32 = (0 : EReal)
    simp [Ideal.ofBits, Ideal.ieee]

/-- and bias. -/
theorem V3_b2 (o : Fin 2) :
    V3 m d (Proc.devRef .tc main_v19) (ix2 0 (⟨o.val, by omega⟩ : Fin 128)) = m ((SparseCore.T d).loc main_arg6) (ix1 o) := by
  have e : V3 m d (Proc.devRef .tc main_v19) = Host.scatter DB (fun _ b => b) (broadcastInDim S1x128 ![] bcast_S_S1x128 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      (m ((SparseCore.T d).loc main_arg6) : FVec Ideal S2 .f32) := by
    unfold V3 opsB
    after_results
    rw [V2_arg m d (by decide) (by decide) (by decide)]
  rw [e]
  refine padB_apply _ _ (fun i => ?_) _ o
  obtain ⟨o, rfl⟩ : ∃ o : Fin 2, i = ix1 o := ⟨i 0, by funext b; match b with | ⟨0, _⟩ => rfl⟩
  fin_cases o <;> rfl

end Cert.Proof.Sc
end
-- ==== Proof.KerOut.lean ====
/-
  The kernel's result, entry by entry.
-/
module

public import proofs.«01_k».proof.Proof.KerArray
public import proofs.«01_k».proof.Proof.KerBlock
public import proofs.«01_k».proof.Proof.KerHost

@[expose] public section

noncomputable section

namespace Cert.Proof.Sc

open Cert.KernelIdeal Cert.KernelIdeal.Gen Idealize.ShloMosaic Idealize.ShloMosaic.TcCoe Idealize.SL.Sem

variable (m : (ℓ : Loc nD τ sig) → Buf (Elt Ideal) ℓ) (d : Dev nD)

/-- The table. -/
abbrev table : S1000000x64.Idx → EReal := m ((SparseCore.T d).loc main_arg2)

/-- The parity's threshold lies between the two parities. -/
theorem half_lt (n : ℕ) : Ideal.ofBits .f32 0x3F000000#32 < (((n % 2 : ℕ) : ℝ) : EReal) ↔ n % 2 = 1 := by
  have e : Ideal.ofBits .f32 0x3F000000#32 = (((1 / 2 : ℝ)) : EReal) := by simp [Ideal.ofBits, Ideal.ieee]; rw [← EReal.coe_mul]; norm_num
  rw [e, EReal.coe_lt_coe_iff]
  rcases Nat.mod_two_eq_zero_or_one n with h | h <;> rw [h] <;> norm_num

/-- The half of the gathered row that the parity picks is the row itself. -/
theorem half_apply (h0 : ∀ x, (words m d x).toNat < 1000000) (t : Fin cfg1.N) (r : Fin 1024) (f : Fin 64) :
    half (blkOf (V3 m) d 0 t) (blkOf (V3 m) d 1 t) r f = row (words m d) (table m d) (atRow t r).val f := by
  have hc : ∀ j : Fin 128, blkOf (V3 m) d 0 t (ix2 r j) = paired (table m d) (tix (rowOf (words m d (ixAt (atRow t r).val))) j) := fun j => by
    rw [blk0_apply, V3_rows]; rfl
  unfold half
  rw [hc, hc, blk1_apply, V3_parity, ← paired_row _ _ h0]
  simp only [half_lt]
  split
  · next h =>
    refine congrArg (fun j => paired (table m d) (tix _ j)) (Fin.ext ?_)
    show 64 + f.val = (words m d (ixAt (atRow t r).val)).toNat % 2 * 64 + f.val
    rw [h, one_mul]
  · next h =>
    refine congrArg (fun j => paired (table m d) (tix _ j)) (Fin.ext ?_)
    show f.val = (words m d (ixAt (atRow t r).val)).toNat % 2 * 64 + f.val
    rw [Nat.mod_two_ne_one.1 h, zero_mul, zero_add]

/-- The block's row of means is the means' row. -/
theorem blockMean_apply (h0 : ∀ x, (words m d x).toNat < 1000000) (t : Fin cfg1.N) (r : Fin 1024) (f : Fin 64) :
    blockMean (grid1.coords t) (blkOf (V3 m) d 0 t) (blkOf (V3 m) d 1 t) (blkOf (V3 m) d 2 t) r f = mean (words m d) (table m d) (atRow t r).val f := by
  have hs : ∀ v : FVec Ideal S32x128 .f32, (∀ t' l, v (ix2 t' l) = V3 m d (Proc.devRef .tc main_v2) (ix2 t' l)) →
      ∑ t' : Fin 32, v (ix2 t' (⟨f.val, by omega⟩ : Fin 128)) = ∑ n ∈ Finset.Ico 16384 819200, row (words m d) (table m d) n f := fun v hv => by
    rw [← blocks_sum _ _ h0]
    exact Finset.sum_congr rfl fun t' _ => (hv t' _).trans (V3_sums m d t' _)
  unfold blockMean mean
  rw [half_apply m d h0, hs _ (blk2_apply (V3 m) d t), coords_val]
  have ha : (atRow t r).val = t.val * 1024 + r.val := rfl
  rw [← ha]
  by_cases h : (atRow t r).val = 16383
  · rw [if_pos h, if_pos h, h, Finset.sum_eq_sum_Ico_succ_bot (show 16383 < 819200 by norm_num)]
  · rw [if_neg h, if_neg h]

/-- Every row of the result is in a block. -/
theorem exists_atRow (r : Fin 16384) : ∃ (t : Fin cfg1.N) (q : Fin 1024), r = atRow t q :=
  ⟨⟨r.val / 1024, by have := r.isLt; show r.val / 1024 < 16; omega⟩, ⟨r.val % 1024, Nat.mod_lt _ (by norm_num)⟩,
    Fin.ext (by show r.val = r.val / 1024 * 1024 + r.val % 1024; omega)⟩

/-- The result's columns are the first two of the dense layers' array. -/
theorem V5_result (r : Fin 16384) (o : Fin 2) :
    V5 m d (Proc.devRef .tc main_v21) (ix2 r o) = outArr (V3 m) endLev d (ix2 r (⟨o.val, by omega⟩ : Fin 128)) := by
  have e : V5 m d (Proc.devRef .tc main_v21) = extractStridedSlice S16384x2 ![0, 0] (outArr (V3 m) endLev d) slices_S16384x128_S16384x2_0_0 := by
    unfold V5 opsC
    after_results
    exact congrArg (fun x => extractStridedSlice S16384x2 ![0, 0] x slices_S16384x128_S16384x2_0_0) (Vout_v20 (V3 m) endLev d)
  rw [e]
  pointwise

/-- The kernel's result at an entry. -/
theorem result_apply (h0 : ∀ x, (words m d x).toNat < 1000000) (r2 : ∀ x, IsReal (table m d x))
    (r3 : ∀ x, IsReal (m ((SparseCore.T d).loc main_arg3) x)) (r4 : ∀ x, IsReal (m ((SparseCore.T d).loc main_arg4) x))
    (r5 : ∀ x, IsReal (m ((SparseCore.T d).loc main_arg5) x)) (r6 : ∀ x, IsReal (m ((SparseCore.T d).loc main_arg6) x)) (r : Fin 16384) (o : Fin 2) :
    V5 m d (Proc.devRef .tc main_v21) (ix2 r o)
      = logProb (mean (words m d) (table m d) r.val) (m ((SparseCore.T d).loc main_arg3)) (m ((SparseCore.T d).loc main_arg4))
          (m ((SparseCore.T d).loc main_arg5)) (m ((SparseCore.T d).loc main_arg6)) o := by
  obtain ⟨t, q, rfl⟩ := exists_atRow r
  rw [V5_result, out_apply]
  unfold denseOut
  refine pay1_apply _ _ _ _ _ _ _ _ (isReal_mean _ _ r2 _) r3 r4 r5 r6 q (fun k => ?_) (fun k c => ?_) (fun o => ?_) o
  · refine (pay2_apply _ _ _ _ _ _ _ _ (fun f k => (blk3_apply (V3 m) d t f k).trans (V3_w1 m d f k))
      (fun k => (blk4_apply (V3 m) d t k).trans (V3_b1 m d k)) q k).trans ?_
    exact congrArg (fun e => unit e _ _ k) (funext fun f => blockMean_apply m d h0 t q f)
  · exact (blk5_apply (V3 m) d t k c).trans (V3_w2 m d k c)
  · exact (blk6_apply (V3 m) d t _).trans (V3_b2 m d o)

end Cert.Proof.Sc
end
-- ==== Proof.Ref.lean ====
/-
  The reference's result as a term of named parts: the segment of every position, the rows taken, their sums and counts, the
  embedding, the logits and the log-softmax.
-/
module

public import proofs.«01_k».proof.Proof.Gen.ReferenceIdeal
public import proofs.«01_k».proof.Proof.Gen.ReferenceIdeal.Run
public import Idealize.ShloMosaic.PureOps.Ideal

@[expose] public section

noncomputable section

namespace Cert.Proof.Ref

open Cert.ReferenceIdeal Cert.ReferenceIdeal.Gen Idealize.ShloMosaic Idealize.ShloMosaic.TcCoe Idealize.SL.Sem

/-- The segment of every position. -/
def seg (a1 : IVec S16384 32) : IVec S819200 32 :=
  subi (Host.reduce IntOp.addi (extui 32 (cmpi .sle
      (broadcastInDim S819200x16384 ![0, 1] bcast_S1x16384_S819200x16384_0_1 (broadcastInDim S1x16384 ![1] bcast_S16384_S1x16384_1 a1))
      (broadcastInDim S819200x16384 ![0, 1] bcast_S819200x1_S819200x16384_0_1 (broadcastInDim S819200x1 ![0] bcast_S819200_S819200x1_0 (iotaInDim S819200 32 0))))
    natLt_1_32) (constantI S_ 32 0#32) reducesTo_S819200x16384_S819200_d1 h_S_) (broadcastInDim S819200 ![] bcast_S_S819200 (constantI S_ 32 1#32))

/-- The segments as a column. -/
def segCol (a1 : IVec S16384 32) : IVec S819200x1 32 := broadcastInDim S819200x1 ![0] bcast_S819200_S819200x1_0 (seg a1)

/-- The row numbers, negative ones counted from the end, as a column. -/
def rowCol (a0 : IVec S819200 32) : IVec S819200x1 32 :=
  broadcastInDim S819200x1 ![0] bcast_S819200_S819200x1_0 (select (cmpi .slt a0 (broadcastInDim S819200 ![] bcast_S_S819200 (constantI S_ 32 0#32)))
    (addi a0 (broadcastInDim S819200 ![] bcast_S_S819200 (constantI S_ 32 1000000#32))) a0)

/-- Which row numbers are inside the table. -/
def inside (a0 : IVec S819200 32) : IVec S819200x1 1 :=
  andi (cmpi .sge (rowCol a0) (broadcastInDim S819200x1 ![] bcast_S_S819200x1 (constantI S_ 32 0#32)))
    (cmpi .sle (rowCol a0) (broadcastInDim S819200x1 ![0, 1] bcast_S1x1_S819200x1_0_1 (broadcastInDim S1x1 ![1] bcast_S1_S1x1_1 (constantI S1 32 999999#32))))

/-- The rows taken. -/
def taken (a0 : IVec S819200 32) (a2 : FVec Ideal S1000000x64 .f32) : FVec Ideal S819200x64 .f32 :=
  select (broadcastInDim S819200x64 ![0] bcast_S819200_S819200x64_0 (Host.reduce IntOp.andi (inside a0) (constantI S_ 1 1#1) reducesTo_S819200x1_S819200_d1 h_S_))
    (Host.gather gather_S1000000x64_S819200x1_S819200x64_1_0_n_n_0_1_164 a2 (rowCol a0))
    (broadcastInDim S819200x64 ![] bcast_S_S819200x64 (constant S_ .f32 0x7FC00000#32))

/-- The sums over the segments, -/
def sums (a0 : IVec S819200 32) (a1 : IVec S16384 32) (a2 : FVec Ideal S1000000x64 .f32) : FVec Ideal S16384x64 .f32 :=
  Host.scatterAdd scatter_S16384x64_S819200x1_S819200x64_1_0_0_1 (broadcastInDim S16384x64 ![] bcast_S_S16384x64 (constant S_ .f32 0x00000000#32))
    (segCol a1) (taken a0 a2)

/-- the counts, -/
def counts (a1 : IVec S16384 32) : FVec Ideal S16384 .f32 :=
  Host.scatterAdd scatter_S16384_S819200x1_S819200_n_0_0_1 (broadcastInDim S16384 ![] bcast_S_S16384 (constant S_ .f32 0x00000000#32))
    (segCol a1) (broadcastInDim S819200 ![] bcast_S_S819200 (constant S_ .f32 0x3F800000#32))

/-- the means. -/
def emb (a0 : IVec S819200 32) (a1 : IVec S16384 32) (a2 : FVec Ideal S1000000x64 .f32) : FVec Ideal S16384x64 .f32 :=
  Host.divf (sums a0 a1 a2) (broadcastInDim S16384x64 ![0, 1] bcast_S16384x1_S16384x64_0_1 (broadcastInDim S16384x1 ![0] bcast_S16384_S16384x1_0 (counts a1)))

/-- The hidden layer of an embedding. -/
def hidden (e : FVec Ideal S16384x64 .f32) (a3 : FVec Ideal S256x64 .f32) (a4 : FVec Ideal S256 .f32) : FVec Ideal S16384x256 .f32 :=
  maximumf (addf (Host.dotGeneral dot_S16384x64_S64x256_S16384x256_1_0_0_1_n_n none e (transpose S64x256 [1, 0] a3 transposes_S256x64_S64x256_1_0))
    (broadcastInDim S16384x256 ![0, 1] bcast_S1x256_S16384x256_0_1 (broadcastInDim S1x256 ![1] bcast_S256_S1x256_1 a4)))
    (broadcastInDim S16384x256 ![] bcast_S_S16384x256 (constant S_ .f32 0x00000000#32))

/-- The logits of a hidden layer. -/
def logits (h : FVec Ideal S16384x256 .f32) (a5 : FVec Ideal S2x256 .f32) (a6 : FVec Ideal S2 .f32) : FVec Ideal S16384x2 .f32 :=
  addf (Host.dotGeneral dot_S16384x256_S256x2_S16384x2_1_0_0_1_n_n none h (transpose S256x2 [1, 0] a5 transposes_S2x256_S256x2_1_0))
    (broadcastInDim S16384x2 ![0, 1] bcast_S1x2_S16384x2_0_1 (broadcastInDim S1x2 ![1] bcast_S2_S1x2_1 a6))

/-- Logits less their row's maximum. -/
def shifted (l : FVec Ideal S16384x2 .f32) : FVec Ideal S16384x2 .f32 :=
  subf l (broadcastInDim S16384x2 ![0, 1] bcast_S16384x1_S16384x2_0_1 (broadcastInDim S16384x1 ![0] bcast_S16384_S16384x1_0
    (maximumf (broadcastInDim S16384 ![] bcast_S_S16384 (constant S_ .f32 0xFF800000#32))
      (Host.reduce FloatOps.maximumf l (constant S_ .f32 0xFF800000#32) reducesTo_S16384x2_S16384_d1 h_S_))))

/-- The log-softmax of logits less their maximum. -/
def logSoftmax (s : FVec Ideal S16384x2 .f32) : FVec Ideal S16384x2 .f32 :=
  subf s (broadcastInDim S16384x2 ![0, 1] bcast_S16384x1_S16384x2_0_1 (Host.log (broadcastInDim S16384x1 ![0] bcast_S16384_S16384x1_0
    (Host.reduceAdd (Host.exp s) (constant S_ .f32 0x00000000#32) reducesTo_S16384x2_S16384_d1 h_S_))))

/-- The reference's result. -/
theorem result_eq (m : (ℓ : Loc nD τ sig) → Buf (Elt Ideal) ℓ) (c : Dev nD) :
    Cert.ReferenceIdeal.Value.res_main_v32 m c
      = logSoftmax (shifted (logits (hidden (emb (m ((c.tc : Thread nD τ).loc main_arg0)) (m ((c.tc : Thread nD τ).loc main_arg1)) (m ((c.tc : Thread nD τ).loc main_arg2)))
          (m ((c.tc : Thread nD τ).loc main_arg3)) (m ((c.tc : Thread nD τ).loc main_arg4))) (m ((c.tc : Thread nD τ).loc main_arg5)) (m ((c.tc : Thread nD τ).loc main_arg6)))) := by
  unfold Cert.ReferenceIdeal.Value.res_main_v32; rfl

end Cert.Proof.Ref
end
-- ==== Proof.RefSeg.lean ====
/-
  With offsets 0, 1, 2, ... the segment of position n is n, capped at the last segment; the row taken at a position is the row
  of the table its word names.
-/
module

public import proofs.«01_k».proof.Proof.Ref
public import Idealize.ShloMosaic.Lib.Pointwise
public import Idealize.ShloMosaic.Lib.StableHlo.Predicate
public import Idealize.ShloMosaic.Lib.IdealHost
public import Idealize.ShloMosaic.Lib.Routing.Ops

@[expose] public section

noncomputable section

namespace Cert.Proof.Ref

open Cert.ReferenceIdeal Cert.ReferenceIdeal.Gen Idealize.ShloMosaic Idealize.ShloMosaic.TcCoe Idealize.SL.Sem

/-- Signed comparison of words by their values. -/
theorem sle_iff (a b : BitVec 32) : IntOp.cmpi .sle a b = 1#1 ↔ a.toInt ≤ b.toInt := by
  show BitVec.ofBool (decide (a.toInt ≤ b.toInt)) = 1#1 ↔ _
  by_cases h : a.toInt ≤ b.toInt <;> simp [h]

/-- The same, strictly. -/
theorem slt_iff (a b : BitVec 32) : IntOp.cmpi .slt a b = 1#1 ↔ a.toInt < b.toInt := by
  show BitVec.ofBool (decide (a.toInt < b.toInt)) = 1#1 ↔ _
  by_cases h : a.toInt < b.toInt <;> simp [h]

/-- A selection by a bit that is not set. -/
theorem select_false {α : Type} {c : BitVec 1} {a b : α} (h : ¬ c = 1#1) : Scalar.select c a b = b := if_neg h

/-- The conjunction of set bits is set. -/
theorem fold_and {ι : Type} (s : Finset ι) : s.fold IntOp.andi (1#1 : BitVec 1) (fun _ => 1#1) = 1#1 := by
  classical
  induction s using Finset.induction with
  | empty => rfl
  | insert a s ha ih => rw [Finset.fold_insert ha, ih]; rfl

/-- There are `min (n + 1) 16384` segments beginning at or before position `n`. -/
theorem card_le (n : ℕ) : (Finset.univ.filter fun q : Fin 16384 => q.val ≤ n).card = min n 16383 + 1 := by
  rcases Nat.lt_or_ge n 16384 with h | h
  · rw [show (Finset.univ.filter fun q : Fin 16384 => q.val ≤ n) = Finset.Iic ⟨n, h⟩ from by ext q; simp [Fin.le_def], Fin.card_Iic]
    simp only; omega
  · rw [Finset.filter_true_of_mem (fun q _ => by have := q.isLt; omega), Finset.card_univ, Fintype.card_fin]
    omega

/-- The segment of position `n`. -/
theorem seg_apply (a1 : IVec S16384 32) (h1 : ∀ x, a1 x = BitVec.ofNat 32 (x 0).val) (n : Fin 819200) :
    seg a1 (ix1 n) = BitVec.ofNat 32 (min n.val 16383) := by
  have hc := StableHlo.Predicate.toNat_reduce_count_cols (n := 819200) (m := 16384) (by norm_num) (cmpi .sle
      (broadcastInDim S819200x16384 ![0, 1] bcast_S1x16384_S819200x16384_0_1 (broadcastInDim S1x16384 ![1] bcast_S16384_S1x16384_1 a1))
      (broadcastInDim S819200x16384 ![0, 1] bcast_S819200x1_S819200x16384_0_1 (broadcastInDim S819200x1 ![0] bcast_S819200_S819200x1_0 (iotaInDim S819200 32 0))))
    natLt_1_32 reducesTo_S819200x16384_S819200_d1 h_S_ (ix1 n)
  have hm : ∀ q : Fin 16384, (cmpi .sle
      (broadcastInDim S819200x16384 ![0, 1] bcast_S1x16384_S819200x16384_0_1 (broadcastInDim S1x16384 ![1] bcast_S16384_S1x16384_1 a1))
      (broadcastInDim S819200x16384 ![0, 1] bcast_S819200x1_S819200x16384_0_1 (broadcastInDim S819200x1 ![0] bcast_S819200_S819200x1_0 (iotaInDim S819200 32 0))))
      (StableHlo.Predicate.ij n q) = 1#1 ↔ q.val ≤ n.val := by
    intro q
    have hq := q.isLt; have hn := n.isLt
    rw [show StableHlo.Predicate.ij n q = ix2 n q from by funext b; match b with | ⟨0, _⟩ => rfl | ⟨1, _⟩ => rfl]
    pointwise
    rw [sle_iff, h1, StableHlo.Predicate.toInt_ofNat_small _ (by show q.val < _; omega), StableHlo.Predicate.toInt_ofNat_small _ (by omega)]
    exact Int.ofNat_le
  have he := hc.trans ((congrArg Finset.card (Finset.filter_congr fun q _ => hm q)).trans (card_le n.val))
  refine BitVec.eq_of_toNat_eq ?_
  unfold seg
  show (_ - 1#32 : BitVec 32).toNat = _
  rw [BitVec.toNat_sub, he, BitVec.toNat_ofNat, BitVec.toNat_ofNat]
  omega

/-- The column of row numbers, for words in range. -/
theorem rowCol_apply (a0 : IVec S819200 32) (h0 : ∀ x, (a0 x).toNat < 1000000) (n : Fin 819200) (k : Fin 1) : rowCol a0 (ix2 n k) = a0 (ix1 n) := by
  have h := h0 (ix1 n)
  unfold rowCol
  pointwise
  exact select_false (by rw [slt_iff]; rw [BitVec.toInt_eq_toNat_of_lt (by omega)]; simp)

/-- The row taken at position `n`, for words in range. -/
theorem taken_apply (a0 : IVec S819200 32) (a2 : FVec Ideal S1000000x64 .f32) (h0 : ∀ x, (a0 x).toNat < 1000000) (n : Fin 819200) (f : Fin 64) :
    taken a0 a2 (ix2 n f) = a2 (ix2 ⟨(a0 (ix1 n)).toNat, h0 _⟩ f) := by
  have hin : ∀ y, inside a0 y = 1#1 := by
    intro y
    obtain ⟨p, k, rfl⟩ : ∃ (p : Fin 819200) (k : Fin 1), y = ix2 p k := ⟨y 0, y 1, by funext b; match b with | ⟨0, _⟩ => rfl | ⟨1, _⟩ => rfl⟩
    have h := h0 (ix1 p)
    unfold inside
    pointwise [rowCol_apply a0 h0]
    rw [show IntOp.cmpi .sge (a0 (ix1 p)) 0#32 = 1#1 from (sle_iff _ _).2 (by
        rw [BitVec.toInt_eq_toNat_of_lt (x := a0 (ix1 p)) (by omega)]; simp),
      show IntOp.cmpi .sle (a0 (ix1 p)) 999999#32 = 1#1 from (sle_iff _ _).2 (by
        rw [BitVec.toInt_eq_toNat_of_lt (by omega), show (999999#32 : BitVec 32).toInt = 999999 from rfl]; omega)]
    rfl
  have hr : Host.reduce IntOp.andi (inside a0) (constantI S_ 1 1#1) reducesTo_S819200x1_S819200_d1 h_S_ = fun _ => 1#1 := by
    funext j
    rw [show inside a0 = fun _ => 1#1 from funext hin, Host.reduce_eq_fold]
    exact fold_and _
  have hg : Host.gather gather_S1000000x64_S819200x1_S819200x64_1_0_n_n_0_1_164 a2 (rowCol a0) (ix2 n f) = a2 (ix2 ⟨(a0 (ix1 n)).toNat, h0 _⟩ f) :=
    Routing.gather_row gather_S1000000x64_S819200x1_S819200x64_1_0_n_n_0_1_164 rfl rfl rfl rfl rfl a2 (rowCol a0) n f ⟨(a0 (ix1 n)).toNat, h0 _⟩
      ((rowCol_apply a0 h0 n 0).trans (by simp)) (by norm_num)
  unfold taken
  rw [hr]
  pointwise
  exact hg

end Cert.Proof.Ref
end
-- ==== Proof.RefScatter.lean ====
/-
  Where the reference's scatters put a row and a one, and the positions each segment takes.
-/
module

public import proofs.«01_k».proof.Proof.RefSeg
public import proofs.«01_k».proof.Proof.Spec
public import proofs.«01_k».proof.Proof.Lands

@[expose] public section

noncomputable section

namespace Cert.Proof.Ref

open Cert.ReferenceIdeal Cert.ReferenceIdeal.Gen Idealize.ShloMosaic Idealize.ShloMosaic.TcCoe Idealize.SL.Sem

/-- The scatter of rows, -/
abbrev D2 : ScatterDims S16384x64 S819200x1 S819200x64 := scatter_S16384x64_S819200x1_S819200x64_1_0_0_1
/-- the scatter of ones. -/
abbrev D1 : ScatterDims S16384 S819200x1 S819200 := scatter_S16384_S819200x1_S819200_n_0_0_1

variable (idx : IVec S819200x1 32) (n : Fin 819200) (f : Fin 64)

theorem start2_0 : D2.start (ix2 n f) idx 0 = (idx (ix2 n 0)).toInt := by
  unfold ScatterDims.start
  rw [dif_pos (show (0 : Fin 2) ∈ D2.scatterDimsToOperandDims from List.mem_singleton.mpr rfl)]
  refine congrArg (fun y => (idx y).toInt) ?_
  funext b
  refine Fin.ext ?_
  match b with
  | ⟨0, _⟩ => rfl
  | ⟨1, _⟩ => rfl

theorem start2_1 : D2.start (ix2 n f) idx 1 = 0 := dif_neg (by decide)
theorem window2_0 : D2.window (ix2 n f) 0 = 0 := dif_neg (by decide)
theorem window2_1 : D2.window (ix2 n f) 1 = f.val := by
  unfold ScatterDims.window
  rw [dif_pos (by decide)]; rfl

/-- A row lands where its segment says, its entries in their columns. -/
theorem lands2 (r : Fin 16384) (g : Fin 64) : D2.resultIdx? (ix2 n f) idx = some (ix2 r g) ↔ (idx (ix2 n 0)).toInt = r.val ∧ f = g := by
  rw [lands_iff]
  constructor
  · intro e
    have e0 := e 0
    have e1 := e 1
    rw [start2_0, window2_0, Nat.cast_zero, add_zero] at e0
    rw [start2_1, window2_1, zero_add] at e1
    exact ⟨e0, Fin.ext (Int.ofNat_inj.1 e1)⟩
  · rintro ⟨e, rfl⟩ a
    match a with
    | ⟨0, _⟩ => exact (congrArg₂ (fun x (y : ℕ) => x + (y : ℤ)) (start2_0 idx n f) (window2_0 n f)).trans ((add_zero _).trans e)
    | ⟨1, _⟩ => exact (congrArg₂ (fun x (y : ℕ) => x + (y : ℤ)) (start2_1 idx n f) (window2_1 n f)).trans (zero_add _)

theorem start1_0 : D1.start (ix1 n) idx 0 = (idx (ix2 n 0)).toInt := by
  unfold ScatterDims.start
  rw [dif_pos (show (0 : Fin 1) ∈ D1.scatterDimsToOperandDims from List.mem_singleton.mpr rfl)]
  refine congrArg (fun y => (idx y).toInt) ?_
  funext b
  refine Fin.ext ?_
  match b with
  | ⟨0, _⟩ => rfl
  | ⟨1, _⟩ => rfl

theorem window1_0 : D1.window (ix1 n) 0 = 0 := dif_neg (by decide)

/-- A one lands where its segment says. -/
theorem lands1 (r : Fin 16384) : D1.resultIdx? (ix1 n) idx = some (ix1 r) ↔ (idx (ix2 n 0)).toInt = r.val := by
  rw [lands_iff]
  constructor
  · intro e
    have e0 := e 0
    rw [start1_0, window1_0, Nat.cast_zero, add_zero] at e0
    exact e0
  · intro e a
    match a with
    | ⟨0, _⟩ => exact (congrArg₂ (fun x (y : ℕ) => x + (y : ℤ)) (start1_0 idx n) (window1_0 n)).trans ((add_zero _).trans e)

/-- Position `n` is in segment `r` exactly when `n`, capped, is `r`. -/
theorem segCol_iff (a1 : IVec S16384 32) (h1 : ∀ x, a1 x = BitVec.ofNat 32 (x 0).val) (r : Fin 16384) :
    (segCol a1 (ix2 n 0)).toInt = r.val ↔ min n.val 16383 = r.val := by
  have hn := n.isLt
  have e : segCol a1 (ix2 n 0) = BitVec.ofNat 32 (min n.val 16383) := by
    rw [← seg_apply a1 h1]
    unfold segCol
    pointwise
  rw [e, StableHlo.Predicate.toInt_ofNat_small _ (by omega)]
  exact Int.ofNat_inj

/-- The positions of segment `r`: `r` itself, or all from 16383 on. -/
theorem sum_segment (g : ℕ → EReal) (r : Fin 16384) :
    (∑ n : Fin 819200 with min n.val 16383 = r.val, g n.val) = if r.val = 16383 then ∑ n ∈ Finset.Ico 16383 819200, g n else g r.val := by
  have hr := r.isLt
  rw [Finset.sum_filter, Fin.sum_univ_eq_sum_range (fun n => if min n 16383 = r.val then g n else 0), ← Finset.sum_filter]
  split
  · next h =>
    refine Finset.sum_congr ?_ fun _ _ => rfl
    ext n; simp only [Finset.mem_filter, Finset.mem_range, Finset.mem_Ico]; omega
  · next h =>
    rw [show (Finset.range 819200).filter (fun n => min n 16383 = r.val) = {r.val} from by
      ext n; simp only [Finset.mem_filter, Finset.mem_range, Finset.mem_singleton]; omega, Finset.sum_singleton]

end Cert.Proof.Ref
end
-- ==== Proof.RefMean.lean ====
/-
  The reference's means: below the last segment the row taken itself; in the last the sum of the rows from position 16383 on
  over their number.
-/
module

public import proofs.«01_k».proof.Proof.RefScatter

@[expose] public section

noncomputable section

namespace Cert.Proof.Ref

open Cert.ReferenceIdeal Cert.ReferenceIdeal.Gen Idealize.ShloMosaic Idealize.ShloMosaic.TcCoe Idealize.SL.Sem

variable (f : Fin 64)

/-- Every index of the rows is a position and a column. -/
theorem exists_ix2 (j : S819200x64.Idx) : ∃ (n : Fin 819200) (g : Fin 64), j = ix2 n g :=
  ⟨j 0, j 1, by funext b; match b with | ⟨0, _⟩ => rfl | ⟨1, _⟩ => rfl⟩

/-- Every index of the ones is a position. -/
theorem exists_ix1 (j : S819200.Idx) : ∃ n : Fin 819200, j = ix1 n :=
  ⟨j 0, by funext b; match b with | ⟨0, _⟩ => rfl⟩

/-- A sum over the rows landing at one entry is a sum over the positions of its segment. -/
theorem sum_rows (a1 : IVec S16384 32) (h1 : ∀ x, a1 x = BitVec.ofNat 32 (x 0).val) (r : Fin 16384) (u : S819200x64.Idx → EReal) :
    (∑ j ∈ Finset.univ.filter (fun j => D2.resultIdx? j (segCol a1) = some (ix2 r f)), u j)
      = ∑ n : Fin 819200 with min n.val 16383 = r.val, u (ix2 n f) := by
  symm
  refine Finset.sum_bij (fun n _ => ix2 n f) ?_ ?_ ?_ ?_
  · intro n hn
    exact Finset.mem_filter.2 ⟨Finset.mem_univ _, (lands2 _ _ _ _ _).2 ⟨(segCol_iff _ a1 h1 r).2 (Finset.mem_filter.1 hn).2, rfl⟩⟩
  · intro n _ n' _ e
    exact congrFun e 0
  · intro j hj
    obtain ⟨n, g, rfl⟩ := exists_ix2 j
    obtain ⟨e, rfl⟩ := (lands2 _ _ _ _ _).1 (Finset.mem_filter.1 hj).2
    exact ⟨n, Finset.mem_filter.2 ⟨Finset.mem_univ _, (segCol_iff _ a1 h1 r).1 e⟩, rfl⟩
  · intro _ _; rfl

/-- A sum over the ones landing at a segment is a sum over its positions. -/
theorem sum_ones (a1 : IVec S16384 32) (h1 : ∀ x, a1 x = BitVec.ofNat 32 (x 0).val) (r : Fin 16384) (u : S819200.Idx → EReal) :
    (∑ j ∈ Finset.univ.filter (fun j => D1.resultIdx? j (segCol a1) = some (ix1 r)), u j)
      = ∑ n : Fin 819200 with min n.val 16383 = r.val, u (ix1 n) := by
  symm
  refine Finset.sum_bij (fun n _ => ix1 n) ?_ ?_ ?_ ?_
  · intro n hn
    exact Finset.mem_filter.2 ⟨Finset.mem_univ _, (lands1 _ _ _).2 ((segCol_iff _ a1 h1 r).2 (Finset.mem_filter.1 hn).2)⟩
  · intro n _ n' _ e
    exact congrFun e 0
  · intro j hj
    obtain ⟨n, rfl⟩ := exists_ix1 j
    have e := (lands1 _ _ _).1 (Finset.mem_filter.1 hj).2
    exact ⟨n, Finset.mem_filter.2 ⟨Finset.mem_univ _, (segCol_iff _ a1 h1 r).1 e⟩, rfl⟩
  · intro _ _; rfl

/-- The zero the sums start from. -/
theorem zero_f32 : (Ideal.ofBits .f32 0x00000000#32 : EReal) = 0 := by simp [Ideal.ofBits, Ideal.ieee]

/-- An adding scatter at an index, at the real numbers. -/
theorem scatterAdd_apply {sx si su : Shape} (d : ScatterDims sx si su) (x : FVec Ideal sx .f32) (idx : IVec si 32) (u : FVec Ideal su .f32) (i : sx.Idx) :
    Host.scatterAdd d x idx u i = x i + ∑ j ∈ Finset.univ.filter (fun j => d.resultIdx? j idx = some i), u j := rfl

/-- A broadcast constant at an index. -/
theorem splat_apply {t : Shape} (h : S_.BroadcastsInDim t (![] : Fin 0 → Fin t.rank)) (b : BitVec 32) (i : t.Idx) :
    broadcastInDim t ![] h (constant (F := Ideal) S_ .f32 b) i = Ideal.ofBits .f32 b := rfl

/-- The sums over the segments. -/
theorem sums_apply (a0 : IVec S819200 32) (a1 : IVec S16384 32) (a2 : FVec Ideal S1000000x64 .f32) (h0 : ∀ x, (a0 x).toNat < 1000000)
    (h1 : ∀ x, a1 x = BitVec.ofNat 32 (x 0).val) (r : Fin 16384) :
    sums a0 a1 a2 (ix2 r f) = if r.val = 16383 then ∑ n ∈ Finset.Ico 16383 819200, row a0 a2 n f else row a0 a2 r.val f := by
  unfold sums
  rw [scatterAdd_apply, splat_apply, zero_f32, zero_add, sum_rows f a1 h1, ← sum_segment (fun n => row a0 a2 n f) r]
  exact Finset.sum_congr rfl fun n _ => (taken_apply a0 a2 h0 n f).trans (row_eq a0 a2 h0 n f).symm

/-- A sum of ones. -/
theorem sum_one (a b : ℕ) : (∑ n ∈ Finset.Ico a b, (1 : EReal)) = (((b - a : ℕ) : ℝ) : EReal) := by
  rw [Finset.sum_const, Nat.card_Ico, EReal.nsmul_eq_mul, mul_one]; rfl

/-- The counts. -/
theorem counts_apply (a1 : IVec S16384 32) (h1 : ∀ x, a1 x = BitVec.ofNat 32 (x 0).val) (r : Fin 16384) :
    counts a1 (ix1 r) = if r.val = 16383 then ((802817 : ℝ) : EReal) else 1 := by
  unfold counts
  rw [scatterAdd_apply, splat_apply, zero_f32, zero_add, sum_ones a1 h1]
  rw [Finset.sum_congr rfl (fun n _ => (splat_apply bcast_S_S819200 0x3F800000#32 (ix1 n)).trans Ideal.ofBits_one_f32)]
  rw [sum_segment (fun _ => 1) r, sum_one]
  norm_num

/-- A quotient by a column of counts. -/
theorem quotient_apply (s : FVec Ideal S16384x64 .f32) (c : FVec Ideal S16384 .f32) (r : Fin 16384) :
    Host.divf s (broadcastInDim S16384x64 ![0, 1] bcast_S16384x1_S16384x64_0_1 (broadcastInDim S16384x1 ![0] bcast_S16384_S16384x1_0 c)) (ix2 r f)
      = Ideal.div (s (ix2 r f)) (c (ix1 r)) := by
  pointwise

/-- The reference's means. -/
theorem emb_apply (a0 : IVec S819200 32) (a1 : IVec S16384 32) (a2 : FVec Ideal S1000000x64 .f32) (h0 : ∀ x, (a0 x).toNat < 1000000)
    (h1 : ∀ x, a1 x = BitVec.ofNat 32 (x 0).val) (r : Fin 16384) : emb a0 a1 a2 (ix2 r f) = mean a0 a2 r.val f := by
  unfold emb mean
  rw [quotient_apply, sums_apply f a0 a1 a2 h0 h1, counts_apply a1 h1]
  by_cases h : r.val = 16383
  · rw [if_pos h, if_pos h, if_pos h]
    unfold Ideal.div
    rw [if_neg (by norm_cast), ← EReal.coe_inv]
  · rw [if_neg h, if_neg h, if_neg h]
    unfold Ideal.div
    rw [if_neg one_ne_zero]; simp

end Cert.Proof.Ref
end
-- ==== Proof.RefOut.lean ====
/-
  The reference's result, entry by entry.
-/
module

public import proofs.«01_k».proof.Proof.RefMean

@[expose] public section

noncomputable section

namespace Cert.Proof.Ref

open Cert.ReferenceIdeal Cert.ReferenceIdeal.Gen Idealize.ShloMosaic Idealize.ShloMosaic.TcCoe Idealize.SL.Sem

/-- The maximum's start. -/
theorem bot_f32 : (Ideal.ofBits .f32 0xFF800000#32 : EReal) = ⊥ := by simp [Ideal.ofBits, Ideal.ieee]

/-- The hidden layer at an entry. -/
theorem hidden_apply (e : FVec Ideal S16384x64 .f32) (a3 : FVec Ideal S256x64 .f32) (a4 : FVec Ideal S256 .f32) (r : Fin 16384) (k : Fin 256) :
    hidden e a3 a4 (ix2 r k) = unit (fun f => e (ix2 r f)) a3 a4 k := by
  unfold hidden unit
  pointwise

/-- The logits at an entry. -/
theorem logits_apply (h : FVec Ideal S16384x256 .f32) (a5 : FVec Ideal S2x256 .f32) (a6 : FVec Ideal S2 .f32) (r : Fin 16384) (o : Fin 2) :
    logits h a5 a6 (ix2 r o) = ∑ k, h (ix2 r k) * a5 (ix2 o k) + a6 (ix1 o) := by
  unfold logits
  pointwise

/-- The shifted logits at an entry. -/
theorem shifted_apply (l : FVec Ideal S16384x2 .f32) (r : Fin 16384) (o : Fin 2) :
    shifted l (ix2 r o) = l (ix2 r o) - Finset.univ.fold max ⊥ (fun p => l (ix2 r p)) := by
  unfold shifted
  pointwise
  rw [bot_f32, max_eq_right bot_le]

/-- The log-softmax at an entry. -/
theorem logSoftmax_apply (s : FVec Ideal S16384x2 .f32) (r : Fin 16384) (o : Fin 2) :
    logSoftmax s (ix2 r o) = s (ix2 r o) - Ideal.log (∑ p, Ideal.exp (s (ix2 r p))) := by
  unfold logSoftmax
  pointwise

/-- The reference's layers at an entry. -/
theorem layers_apply (e : FVec Ideal S16384x64 .f32) (a3 : FVec Ideal S256x64 .f32) (a4 : FVec Ideal S256 .f32) (a5 : FVec Ideal S2x256 .f32)
    (a6 : FVec Ideal S2 .f32) (r : Fin 16384) (o : Fin 2) :
    logSoftmax (shifted (logits (hidden e a3 a4) a5 a6)) (ix2 r o) = logProb (fun f => e (ix2 r f)) a3 a4 a5 a6 o := by
  have hl : ∀ p, logits (hidden e a3 a4) a5 a6 (ix2 r p) = logit (fun f => e (ix2 r f)) a3 a4 a5 a6 p := fun p => by
    rw [logits_apply]
    exact congrArg (· + _) (Finset.sum_congr rfl fun k _ => congrArg (· * _) (hidden_apply e a3 a4 r k))
  have hs : ∀ p, shifted (logits (hidden e a3 a4) a5 a6) (ix2 r p)
      = logit (fun f => e (ix2 r f)) a3 a4 a5 a6 p - peak (fun f => e (ix2 r f)) a3 a4 a5 a6 := fun p => by
    rw [shifted_apply, hl]
    unfold peak
    simp only [hl]
  rw [logSoftmax_apply]
  unfold logProb
  simp only [hs]

/-- The reference's result at an entry. -/
theorem result_apply (m : (ℓ : Loc nD τ sig) → Buf (Elt Ideal) ℓ) (c : Dev nD)
    (h0 : ∀ x, (m ((c.tc : Thread nD τ).loc main_arg0) x).toNat < 1000000)
    (h1 : ∀ x, m ((c.tc : Thread nD τ).loc main_arg1) x = BitVec.ofNat 32 (x 0).val) (r : Fin 16384) (o : Fin 2) :
    Cert.ReferenceIdeal.Value.res_main_v32 m c (ix2 r o)
      = logProb (mean (m ((c.tc : Thread nD τ).loc main_arg0)) (m ((c.tc : Thread nD τ).loc main_arg2)) r.val)
          (m ((c.tc : Thread nD τ).loc main_arg3)) (m ((c.tc : Thread nD τ).loc main_arg4)) (m ((c.tc : Thread nD τ).loc main_arg5))
          (m ((c.tc : Thread nD τ).loc main_arg6)) o := by
  rw [result_eq, layers_apply]
  exact congrArg (fun e => logProb e _ _ _ _ o) (funext fun f => emb_apply f _ _ _ h0 h1 r)

end Cert.Proof.Ref
end
-- ==== Proof.Algebraic.lean ====
/-
  The value claim: at the real numbers the kernel and the reference compute the same array.
-/
module

public import proofs.«01_k».proof.Proof.Frames
public import proofs.«01_k».proof.Proof.KerOut
public import proofs.«01_k».proof.Proof.RefOut

@[expose] public section

noncomputable section

namespace Cert.Proof

open Idealize.ShloMosaic Idealize.SL.Sem

attribute [local instance] Cert.Kernel.Gen.facts Cert.KernelIdeal.Gen.facts Cert.ReferenceIdeal.Gen.facts Cert.Pre_in_range.Gen.facts Cert.Pre_pre.Gen.facts

/-- On the same arguments the two results are the same array. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hp : Cert.Pre_KernelIdeal_pre m)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v32 m' c = Sc.V5 m c (Proc.devRef .tc Cert.KernelIdeal.main_v21) := by
  obtain ⟨h0, h1, r2, r3, r4, r5, r6⟩ := Sc.pre_fields (hp c)
  funext x
  obtain ⟨r, o, rfl⟩ : ∃ (r : Fin 16384) (o : Fin 2), x = ix2 r o := ⟨x 0, x 1, by funext b; match b with | ⟨0, _⟩ => rfl | ⟨1, _⟩ => rfl⟩
  refine (Ref.result_apply m' c (fun x => ?_) (fun x => ?_) r o).trans ?_
  · rw [e0]; exact h0 x
  · rw [e1]; exact h1 x
  · rw [e0, e2, e3, e4, e5, e6]
    exact (Sc.result_apply m c h0 r2 r3 r4 r5 r6 r o).symm

/-- The kernel computes what the reference computes. -/
theorem algebraic : Cert.algebraic_KernelIdeal_ReferenceIdeal_pre_pre := by
  intro m g m' g' hp hargs
  refine ⟨fun c => Sc.V5 m c (Proc.devRef .tc Cert.KernelIdeal.main_v21), ?_, ?_⟩
  · exact (θ_run Cert.KernelIdeal.defs _ _).mono (fun r h c => ⟨h.1 c ⟨_, Sc.uc_mem (by decide)⟩, Sc.kept_of m h c⟩)
      (Sc.run_main m g (inRange_of_pre m hp))
  · refine (θ_run Cert.ReferenceIdeal.defs _ _).mono (fun r h c => ⟨(h c).1.trans ?_, (h c).2⟩) (Cert.ReferenceIdeal.Value.run (F := Ideal) m' g')
    obtain ⟨e0, e1, e2, e3, e4, e5, e6⟩ := hargs c
    exact results_eq m m' hp c e0 e1 e2 e3 e4 e5 e6

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Algebraic
public import proofs.«01_k».proof.Proof.Gen.ReferenceIdeal
public import proofs.«01_k».proof.Proof.Gen.ReferenceIdeal.Run
public import proofs.«01_k».proof.Proof.Gen.Pre_in_range
public import proofs.«01_k».proof.Proof.Gen.Pre_pre
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_in_range.Gen.facts, Cert.Pre_pre.Gen.facts,
    frame_kernel, frame_ideal, frame_ideal_pre, frame_reference, frame_reference_pre, preserves, algebraic⟩

end Cert.Proof

end
